-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024 : Shape := ⟨1, ![1024]⟩
abbrev S_ : Shape := ⟨0, ![]⟩
abbrev S100000x128 : Shape := ⟨2, ![100000, 128]⟩
abbrev S1024x100000 : Shape := ⟨2, ![1024, 100000]⟩
abbrev S2176x128 : Shape := ⟨2, ![2176, 128]⟩
abbrev S2x1024x2176 : Shape := ⟨3, ![2, 1024, 2176]⟩
abbrev S2 : Shape := ⟨1, ![2]⟩
abbrev S1 : Shape := ⟨1, ![1]⟩
abbrev S1024x2176 : Shape := ⟨2, ![1024, 2176]⟩
abbrev S1x1024x2176 : Shape := ⟨3, ![1, 1024, 2176]⟩
abbrev S1024x2048 : Shape := ⟨2, ![1024, 2048]⟩
abbrev S1x1024x2048 : Shape := ⟨3, ![1, 1024, 2048]⟩
abbrev S128x128 : Shape := ⟨2, ![128, 128]⟩
abbrev S1x1024x128 : Shape := ⟨3, ![1, 1024, 128]⟩

abbrev nBuf : Space → Nat
  | .hbm => 9
  | .vmem => 4
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S_, .i32⟩
  | .hbm, ⟨3, _⟩ => ⟨S100000x128, .f32⟩
  | .hbm, ⟨4, _⟩ => ⟨S1024x100000, .f32⟩
  | .hbm, ⟨5, _⟩ => ⟨S1024x128, .f32⟩
  | .hbm, ⟨6, _⟩ => ⟨S_, .i32⟩
  | .hbm, ⟨7, _⟩ => ⟨S_, .i32⟩
  | .hbm, ⟨8, _⟩ => ⟨S1024x100000, .f32⟩
  | .local _ .vmem, ⟨0, _⟩ => ⟨S1024x128, .f32⟩
  | .local _ .vmem, ⟨1, _⟩ => ⟨S2176x128, .f32⟩
  | .local _ .vmem, ⟨2, _⟩ => ⟨S2176x128, .f32⟩
  | .local _ .vmem, ⟨3, _⟩ => ⟨S2x1024x2176, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_c : Ref sig .tc := ⟨.hbm, 6, rfl⟩
abbrev main_call0_c_0 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![46], ![false]⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 2 → Nat :=
  let c0_i32_10 : BitVec 32 := 0#32
  let arg0 : BitVec 32 := BitVec.ofNat 32 (i 0).val
  let c2_i32_9 : BitVec 32 := 2#32
  let v17 : BitVec 32 := Scalar.subi arg0 c2_i32_9
  let c2176_i32 : BitVec 32 := 2176#32
  let v18 : BitVec 32 := Scalar.muli v17 c2176_i32
  ![0, v18.toNat]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c0_i32_12 : BitVec 32 := 0#32
  ![v0.toNat, 0, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v7 : Index := Scalar.indexCast v0
  let c0_4 : Index := 0#32
  let c0_5 : Index := 0#32
  ![v7.toNat, 0, 0]
def k0_cond2 (i : grid0.Coords) : BitVec 1 :=
  let arg0 : BitVec 32 := BitVec.ofNat 32 (i 0).val
  let c45_i32 : BitVec 32 := 45#32
  let v11 : BitVec 1 := Scalar.cmpi .slt arg0 c45_i32
  let v12 : BitVec 32 := Scalar.extui v11
  let c0_i32_6 : BitVec 32 := 0#32
  let v13 : BitVec 1 := Scalar.cmpi .ne v12 c0_i32_6
  v13

def k0_off5 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off6 (i : grid0.Coords) : Fin 2 → Nat :=
  let c0_i32_9 : BitVec 32 := 0#32
  let arg0 : BitVec 32 := BitVec.ofNat 32 (i 0).val
  let c2176_i32 : BitVec 32 := 2176#32
  let v17 : BitVec 32 := Scalar.muli arg0 c2176_i32
  ![0, v17.toNat]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_10 : BitVec 32 := 0#32
  let c0_i32_11 : BitVec 32 := 0#32
  ![v0.toNat, 0, 0]
def k0_cond3 (i : grid0.Coords) : BitVec 1 :=
  let arg0 : BitVec 32 := BitVec.ofNat 32 (i 0).val
  let c45_i32_7 : BitVec 32 := 45#32
  let v14 : BitVec 1 := Scalar.cmpi .eq arg0 c45_i32_7
  let v15 : BitVec 32 := Scalar.extui v14
  let c0_i32_8 : BitVec 32 := 0#32
  let v16 : BitVec 1 := Scalar.cmpi .ne v15 c0_i32_8
  v16

def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) : Fin 2 → Nat :=
  let c0_i32_9 : BitVec 32 := 0#32
  let arg0 : BitVec 32 := BitVec.ofNat 32 (i 0).val
  let c2176_i32 : BitVec 32 := 2176#32
  let v17 : BitVec 32 := Scalar.muli arg0 c2176_i32
  ![0, v17.toNat]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_10 : BitVec 32 := 0#32
  let c0_i32_11 : BitVec 32 := 0#32
  ![v0.toNat, 0, 0]
def k0_off11 (i : grid0.Coords) : Fin 1 → Nat :=
  let c1_i32_14 : BitVec 32 := 1#32
  let arg0 : BitVec 32 := BitVec.ofNat 32 (i 0).val
  let c2_i32 : BitVec 32 := 2#32
  let v0 : BitVec 32 := Scalar.remsi arg0 c2_i32
  let v26 : BitVec 32 := Scalar.subi c1_i32_14 v0
  ![v26.toNat]
def k0_off12 (i : grid0.Coords) : Fin 2 → Nat :=
  let c0_i32_15 : BitVec 32 := 0#32
  let arg0 : BitVec 32 := BitVec.ofNat 32 (i 0).val
  let c1_i32_12 : BitVec 32 := 1#32
  let v24 : BitVec 32 := Scalar.subi arg0 c1_i32_12
  let c2176_i32_13 : BitVec 32 := 2176#32
  let v25 : BitVec 32 := Scalar.muli v24 c2176_i32_13
  ![0, v25.toNat]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v23 : BitVec 32 := Scalar.subi c1_i32 v0
  let c0_i32_16 : BitVec 32 := 0#32
  let c0_i32_17 : BitVec 32 := 0#32
  ![v23.toNat, 0, 0]
def k0_off14 (i : grid0.Coords) : Fin 3 → Nat :=
  let c1_i32_22 : BitVec 32 := 1#32
  let arg0 : BitVec 32 := BitVec.ofNat 32 (i 0).val
  let c2_i32 : BitVec 32 := 2#32
  let v0 : BitVec 32 := Scalar.remsi arg0 c2_i32
  let v35 : BitVec 32 := Scalar.subi c1_i32_22 v0
  let v36 : Index := Scalar.indexCast v35
  let c0_23 : Index := 0#32
  let c0_24 : Index := 0#32
  ![v36.toNat, 0, 0]
def k0_off15 (i : grid0.Coords) : Fin 3 → Nat :=
  let c1_i32_25 : BitVec 32 := 1#32
  let arg0 : BitVec 32 := BitVec.ofNat 32 (i 0).val
  let c2_i32 : BitVec 32 := 2#32
  let v0 : BitVec 32 := Scalar.remsi arg0 c2_i32
  let v40 : BitVec 32 := Scalar.subi c1_i32_25 v0
  let c0_i32_29 : BitVec 32 := 0#32
  let c0_i32_30 : BitVec 32 := 0#32
  ![v40.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x128 : Shape := ⟨2, ![1024, 128]⟩
abbrev S1024 : Shape := ⟨1, ![1024]⟩
abbrev S_ : Shape := ⟨0, ![]⟩
abbrev S100000x128 : Shape := ⟨2, ![100000, 128]⟩
abbrev S128x100000 : Shape := ⟨2, ![128, 100000]⟩
abbrev S1024x100000 : Shape := ⟨2, ![1024, 100000]⟩

abbrev nBuf : Space → Nat
  | .hbm => 6
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S_, .i32⟩
  | .hbm, ⟨3, _⟩ => ⟨S100000x128, .f32⟩
  | .hbm, ⟨4, _⟩ => ⟨S128x100000, .f32⟩
  | .hbm, ⟨5, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Proof.Product.lean ====
/-
  The mathematics: the logit at (row, bank row) as one sum over the 128 features, and what the reference's result and
  the kernel's two products are at an index, each such a sum. Exact arithmetic throughout; no finiteness is needed, as
  the sums have the same terms in the same order.
-/
module

public import proofs.«01_k».proof.Proof.Gen.ReferenceIdeal
public import proofs.«01_k».proof.Proof.Gen.KernelIdeal.Skeleton
public import Idealize.ShloMosaic.Lib.Pipeline.ValueKit

@[expose] public section

set_option maxRecDepth 16384

noncomputable section

namespace Cert.KernelIdeal.Hand

open Cert.KernelIdeal Cert.KernelIdeal.Gen
open Idealize.ShloMosaic

/-- The logit of input row `r` against bank row `n`. -/
def logit (x : S1024x128.Idx → Elt Ideal .f32) (b : S100000x128.Idx → Elt Ideal .f32) (r : Fin 1024) (n : Fin 100000) : Elt Ideal .f32 :=
  ∑ k : Fin 128, x (ix2 r k) * b (ix2 n k)

/-- The reference's result at an index is the logit. -/
theorem reference_at (x : S1024x128.Idx → Elt Ideal .f32) (b : S100000x128.Idx → Elt Ideal .f32) (i : S1024x100000.Idx) :
    Host.dotGeneral (F := Ideal) (φ₁ := .f32) (φ₂ := .f32) Cert.ReferenceIdeal.dot_S1024x128_S128x100000_S1024x100000_1_0_0_1_n_n none x
        (transpose Cert.ReferenceIdeal.S128x100000 [1, 0] b Cert.ReferenceIdeal.Gen.transposes_S100000x128_S128x100000_1_0) i
      = logit x b (i 0) (i 1) := by
  unfold logit
  pointwise

/-- A block's product at an index: the sum over the features of the input row and the block's row. -/
theorem pay1_at (x : S1024x128.Idx → Elt Ideal .f32) (b : S2176x128.Idx → Elt Ideal .f32) (y : S1x1024x2176.Idx) :
    k0_pay1 (F := Ideal) x b y = ∑ k : Fin 128, x (ix2 (y 1) k) * b (ix2 (y 2) k) := by
  unfold k0_pay1
  pointwise

/-- The last rows' product at an index. -/
theorem pay2_at (x : S1024x128.Idx → Elt Ideal .f32) (b : S128x128.Idx → Elt Ideal .f32) (y : S1x1024x128.Idx) :
    k0_pay2 (F := Ideal) x b y = ∑ k : Fin 128, x (ix2 (y 1) k) * b (ix2 (y 2) k) := by
  unfold k0_pay2
  pointwise

end Cert.KernelIdeal.Hand

end
-- ==== Proof.Geometry.lean ====
/-
  Where the kernel's transfers and stores sit in its buffers, at coordinates.

  The accumulator holds two slots of 1024 rows and 2176 columns. A point computes one slot and copies its columns out
  to a block of columns of the array left in HBM. `slotS g` is the elements of slot `g`; `colS lo hi` the elements of
  that array whose column lies in `lo ≤ · < hi`. The lemmas below say, of the printed slices, which of these sets they
  cover and what a copy or a store through them leaves at an element.
-/
module

public import proofs.«01_k».proof.Proof.Gen.KernelIdeal
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe

variable {F : FTy → Type} [FloatOps F]

/-- The accumulator, the array of columns and the array of the last columns, as the body is handed them. -/
abbrev accM : Memref sig .tc .vmem S2x1024x2176 .f32 := Memref.whole cc0_scratch0
abbrev outM : Memref sig .tc .hbm S1024x100000 .f32 := Memref.whole main_call0_v0_0
abbrev tailM : Memref sig .tc .hbm S1024x128 .f32 := Memref.whole main_call0_v0_1

/-- Contents of the three buffers. -/
abbrev AccV (F : FTy → Type) : Type := S2x1024x2176.Idx → Elt F .f32
abbrev OutV (F : FTy → Type) : Type := S1024x100000.Idx → Elt F .f32
abbrev TailV (F : FTy → Type) : Type := S1024x128.Idx → Elt F .f32

/-- The accumulator's elements in slot `g`. -/
def slotS (g : ℕ) : Finset S2x1024x2176.Idx := Finset.univ.filter fun j => (j 0).val = g
/-- The array's elements whose column is at least `lo` and less than `hi`. -/
def colS (lo hi : ℕ) : Finset S1024x100000.Idx := Finset.univ.filter fun j => lo ≤ (j 1).val ∧ (j 1).val < hi

theorem mem_slotS {g : ℕ} {j : S2x1024x2176.Idx} : j ∈ slotS g ↔ (j 0).val = g := by
  unfold slotS; rw [Finset.mem_filter]; exact and_iff_right (Finset.mem_univ _)
theorem mem_colS {lo hi : ℕ} {j : S1024x100000.Idx} : j ∈ colS lo hi ↔ lo ≤ (j 1).val ∧ (j 1).val < hi := by
  unfold colS; rw [Finset.mem_filter]; exact and_iff_right (Finset.mem_univ _)

/-- A shape of one slot's rows and its first `w` columns, with and without the slot axis. -/
abbrev S3 (w : ℕ) : Shape := ⟨3, ![1, 1024, w]⟩
abbrev S2d (w : ℕ) : Shape := ⟨2, ![1024, w]⟩

section Slab

variable {w g : ℕ} {off : Fin 3 → ℕ} (inb : ∀ a, off a + (S3 w).size a ≤ S2x1024x2176.size a)

/-- The first `w` columns of the slot that `off` names. -/
abbrev slab3 : View sig .tc .vmem (S3 w) .f32 := accM.access (Rect.unit (s := S2x1024x2176) off (S3 w).size inb)
/-- The same without the slot axis: what a copy reads. -/
abbrev slab (hw : (S2d w).numel = (S3 w).numel) : View sig .tc .vmem (S2d w) .f32 := (slab3 inb).reshape (S2d w) hw

/-- An element of a slab sits in its slot at its own row and column. -/
theorem slab3_emb (h : off = ![g, 0, 0]) (y : (S3 w).Idx) :
    (((slab3 inb).emb y : S2x1024x2176.Idx) 0).val = g ∧ (((slab3 inb).emb y : S2x1024x2176.Idx) 1).val = (y 1).val
      ∧ (((slab3 inb).emb y : S2x1024x2176.Idx) 2).val = (y 2).val := by
  subst h
  have h0 : (y 0).val < 1 := (y 0).isLt
  refine ⟨(ValueKit.view_emb_slice_whole_unit_val cc0_scratch0 ![g, 0, 0] (S3 w).size inb y (0 : Fin 3)).trans ?_,
    (ValueKit.view_emb_slice_whole_unit_val cc0_scratch0 ![g, 0, 0] (S3 w).size inb y (1 : Fin 3)).trans ?_,
    (ValueKit.view_emb_slice_whole_unit_val cc0_scratch0 ![g, 0, 0] (S3 w).size inb y (2 : Fin 3)).trans ?_⟩
  · show g + (y 0).val = g; omega
  · show 0 + (y 1).val = (y 1).val; omega
  · show 0 + (y 2).val = (y 2).val; omega

/-- A slab's elements lie in its slot. -/
theorem slab3_subset (h : off = ![g, 0, 0]) : (slab3 inb).set ⊆ slotS g := by
  intro i hi
  obtain ⟨y, -, rfl⟩ := Finset.mem_map.mp hi
  exact mem_slotS.mpr (slab3_emb inb h y).1

theorem slab_subset (hw : (S2d w).numel = (S3 w).numel) (h : off = ![g, 0, 0]) : (slab inb hw).set ⊆ slotS g := by
  rw [View.set_reshape]; exact slab3_subset inb h

/-- Without the slot axis the row is the first coordinate and the column the second. -/
theorem slab_emb (hw : (S2d w).numel = (S3 w).numel) (h : off = ![g, 0, 0]) (x : (S2d w).Idx) :
    (((slab inb hw).emb x : S2x1024x2176.Idx) 0).val = g ∧ (((slab inb hw).emb x : S2x1024x2176.Idx) 1).val = (x 0).val
      ∧ (((slab inb hw).emb x : S2x1024x2176.Idx) 2).val = (x 1).val := by
  have e : (slab inb hw).emb x = (slab3 inb).emb (Shape.reshapeEquiv hw x) := rfl
  have e2 : Shape.reshapeEquiv hw x = Fin.cons ⟨0, Nat.one_pos⟩ x := Shape.reshapeEquiv_cons_one (n := 2) (d := ![1024, w]) hw x
  have := slab3_emb inb h (Shape.reshapeEquiv hw x)
  rw [e2] at this
  rw [e, e2]
  exact this

/-- What a store of a slab leaves at an element of its slot in the first `w` columns: the stored vector's element of the
    same row and column. -/
theorem slab3_write (h : off = ![g, 0, 0]) (f : AccV F) (p : (S3 w).Idx → Elt F .f32) (k : S2x1024x2176.Idx)
    (hk : (k 0).val = g) (hw : (k 2).val < w) :
    ∃ y : (S3 w).Idx, (y 1).val = (k 1).val ∧ (y 2).val = (k 2).val
      ∧ ((slab3 inb).write (Elt F) f p Finset.univ : AccV F) k = p y := by
  let y : (S3 w).Idx := Fin.cons ⟨0, Nat.one_pos⟩ (Fin.cons (k 1) (Fin.cons ⟨(k 2).val, hw⟩ fun a => a.elim0))
  obtain ⟨h0, h1, h2⟩ := slab3_emb inb h y
  have e : ((slab3 inb).emb y : S2x1024x2176.Idx) = k := by
    funext a
    refine Fin.ext ?_
    match a with
    | ⟨0, _⟩ => exact h0.trans hk.symm
    | ⟨1, _⟩ => exact h1
    | ⟨2, _⟩ => exact h2
  refine ⟨y, rfl, rfl, ?_⟩
  rw [← e]
  exact View.write_emb_of_mem _ _ (Finset.mem_univ y)

end Slab

section Cols

variable {w lo : ℕ} {off : Fin 2 → ℕ} (inb : ∀ a, off a + (S2d w).size a ≤ S1024x100000.size a)

/-- The `w` columns of the array from the column `off` names. -/
abbrev cols : View sig .tc .hbm (S2d w) .f32 := outM.access (Rect.unit (s := S1024x100000) off (S2d w).size inb)

theorem cols_emb (h : off = ![0, lo]) (x : (S2d w).Idx) :
    (((cols inb).emb x : S1024x100000.Idx) 0).val = (x 0).val ∧ (((cols inb).emb x : S1024x100000.Idx) 1).val = lo + (x 1).val := by
  subst h
  refine ⟨(ValueKit.view_emb_slice_whole_unit_val main_call0_v0_0 ![0, lo] (S2d w).size inb x (0 : Fin 2)).trans ?_,
    (ValueKit.view_emb_slice_whole_unit_val main_call0_v0_0 ![0, lo] (S2d w).size inb x (1 : Fin 2)).trans ?_⟩
  · show 0 + (x 0).val = (x 0).val; omega
  · rfl

/-- Its elements are those of these columns. -/
theorem cols_set (h : off = ![0, lo]) : (cols inb).set = colS lo (lo + w) := by
  ext i
  constructor
  · intro hi
    obtain ⟨x, -, rfl⟩ := Finset.mem_map.mp hi
    have := (cols_emb inb h x).2
    have hx : (x 1).val < w := (x 1).isLt
    exact mem_colS.mpr ⟨by omega, by omega⟩
  · intro hi
    obtain ⟨h1, h2⟩ := mem_colS.mp hi
    let x : (S2d w).Idx := Fin.cons (i 0) (Fin.cons ⟨(i 1).val - lo, (show (i 1).val - lo < w by omega)⟩ fun a => a.elim0)
    obtain ⟨e0, e1⟩ := cols_emb inb h x
    have e : ((cols inb).emb x : S1024x100000.Idx) = i := by
      funext a
      refine Fin.ext ?_
      match a with
      | ⟨0, _⟩ => exact e0
      | ⟨1, _⟩ => exact e1.trans (show lo + ((i 1).val - lo) = (i 1).val by omega)
    rw [← e]
    exact View.emb_mem_set _ x

/-- What a copy of a slab to these columns leaves at one of their elements: the slot's element of the same row, at the
    column counted from the first. -/
theorem cols_landed {g : ℕ} {off' : Fin 3 → ℕ} (inb' : ∀ a, off' a + (S3 w).size a ≤ S2x1024x2176.size a)
    (hw : (S2d w).numel = (S3 w).numel) (h : off = ![0, lo]) (h' : off' = ![g, 0, 0]) (fs : AccV F) (fd : OutV F)
    (i : S1024x100000.Idx) (hi : i ∈ colS lo (lo + w)) :
    ∃ k : S2x1024x2176.Idx, (k 0).val = g ∧ (k 1).val = (i 0).val ∧ lo + (k 2).val = (i 1).val
      ∧ ((cols inb).write (Elt F) fd ((slab inb' hw).read (Elt F) fs) Finset.univ : OutV F) i = fs k := by
  rw [← cols_set inb h] at hi
  obtain ⟨x, -, rfl⟩ := Finset.mem_map.mp hi
  obtain ⟨e0, e1⟩ := cols_emb inb h x
  obtain ⟨k0, k1, k2⟩ := slab_emb inb' hw h' x
  refine ⟨(slab inb' hw).emb x, k0, k1.trans e0.symm, ?_, ?_⟩
  · rw [k2]; exact e1.symm
  · exact View.write_emb_of_mem _ _ (Finset.mem_univ x)

end Cols

/-- What a copy of a slab of 128 columns to the whole of the second array leaves: the slot's element of the same row and
    column. -/
theorem tail_landed {g : ℕ} {off' : Fin 3 → ℕ} (inb' : ∀ a, off' a + (S3 128).size a ≤ S2x1024x2176.size a)
    (hw : (S2d 128).numel = (S3 128).numel) (inb : ∀ a, (![0, 0] : Fin 2 → ℕ) a + (S2d 128).size a ≤ S1024x128.size a)
    (h' : off' = ![g, 0, 0]) (fs : AccV F) (fd : TailV F) (i : S1024x128.Idx) :
    ∃ k : S2x1024x2176.Idx, (k 0).val = g ∧ (k 1).val = (i 0).val ∧ (k 2).val = (i 1).val
      ∧ ((tailM.access (Rect.unit (s := S1024x128) ![0, 0] (S2d 128).size inb)).write (Elt F) fd
          ((slab inb' hw).read (Elt F) fs) Finset.univ : TailV F) i = fs k := by
  obtain ⟨k0, k1, k2⟩ := slab_emb inb' hw h' i
  have e : ((tailM.access (Rect.unit (s := S1024x128) ![0, 0] (S2d 128).size inb)).emb i : S1024x128.Idx) = i := by
    funext a
    refine Fin.ext ((ValueKit.view_emb_slice_whole_unit_val main_call0_v0_1 ![0, 0] (S2d 128).size inb i a).trans ?_)
    match a with
    | ⟨0, _⟩ => exact Nat.zero_add _
    | ⟨1, _⟩ => exact Nat.zero_add _
  refine ⟨(slab inb' hw).emb i, k0, k1, k2, ?_⟩
  have := View.write_emb_of_mem (v := tailM.access (Rect.unit (s := S1024x128) ![0, 0] (S2d 128).size inb)) (Val := Elt F)
    fd ((slab inb' hw).read (Elt F) fs) (Finset.mem_univ i)
  rw [e] at this
  exact this

/-- The cell the printed one-cell slice of the two completion cells names. -/
theorem cell_eq {off : Fin 1 → ℕ} (inb : ∀ a, off a + S1.size a ≤ S2.size a) (g : ℕ) (hg : 3 + g < 5) (h : off = ![g]) :
    ((cc0_scratch1.slice (Rect.unit (s := S2) off S1.size inb)).squeeze S_ squeezes_S1_S_).sem = (⟨3 + g, hg⟩ : DmaSem sig) := by
  subst h
  obtain rfl | rfl : g = 0 ∨ g = 1 := by omega
  · exact (by decide : ((cc0_scratch1.slice (Rect.unit (s := S2) ![0] S1.size (by decide))).squeeze S_ squeezes_S1_S_).sem = (3 : DmaSem sig))
  · exact (by decide : ((cc0_scratch1.slice (Rect.unit (s := S2) ![1] S1.size (by decide))).squeeze S_ squeezes_S1_S_).sem = (4 : DmaSem sig))

end Cert.KernelIdeal.Hand

end
-- ==== Proof.Ring.lean ====
/-
  The two-slot ring of copies, as an invariant over the grid's points.

  Point `t` computes slot `t % 2` of the accumulator and starts copying it to the columns from `2176 * t` of the array
  left in HBM; the copy is waited for two points later, on the slot's own completion cell. So before point `t` the copies
  of the points `t - 2` and `t - 1` are in flight, each holding its slot and its columns, and the array's other columns
  are held by the core: those below `2176 * (t - 2)` have landed, the others are as the region found them.

  Everything is stated for any property `Good` of the array's elements that landed contents are to have, so that one
  proof of the body serves the frame (no property) and the value (the element is the product's).
-/
module

public import proofs.«01_k».proof.Proof.Geometry
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

/-- The transfers' counters in the proof's algebra. -/
abbrev EC : UEmb Counters 𝕄 := countersEmb (U := Pipeline.UD sig nD τ)

/-- A transfer in flight beside anything is a transfer in flight that delivers that thing too. -/
theorem Flight_frame (c : Dev nD) {sm : SemLoc sig} {N : ℕ} {D P : sProp 𝕄} :
    iprop(Flight EC (c : Thread nD τ) sm () N D ∗ P) ⊢ (Flight EC (c : Thread nD τ) sm () N iprop(D ∗ P) : sProp 𝕄) := by
  unfold Flight
  iintro ⟨⟨⟨%R, HR, %hcap, %hpeek⟩, Hcred⟩, HP⟩
  isplitl [HR HP]
  · iexists iprop(R ∗ P)
    isplitl [HR HP]
    · isplitl [HR]
      · iexact HR
      iexact HP
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD]
      · iexact HD
      iexact HP
    · ipureintro
      intro K
      refine BIBase.Entails.trans ?_ (hpeek K)
      iintro ⟨⟨HR, HP⟩, HK⟩
      isplitl [HR]; · iexact HR
      iintro HR
      iapply HK
      isplitl [HR]
      · iexact HR
      iexact HP
  · iexact Hcred

section Rules

variable {c : Dev nD} {sp sp' : Space} {s : Shape} {α : Type}
  {k : PUnit → Prog (TpuEff nD τ sig (Elt F) Λ₀ .tc) α}

/-- Starting a copy out of elements `Ss` the core holds into elements `Sd` it holds, on a cell at zero: the core goes on
    with the copy in flight, which delivers what the landed contents yield (`hD`) and the source's elements back. -/
theorem wp_start {src : Memref sig .tc sp s .f32} {dst : Memref sig .tc sp' s .f32} {sm sm' : SemLoc sig}
    {hsrc : src.view.WordExact} {hdst : dst.view.WordExact} {hsem : DmaTarget.Typed (nD := nD) (τ := τ) (p := .tc) sp sm (.here dst)}
    {Ss : Finset (Idx (src.view.loc (c : Thread nD τ)))} {fs : Buf (Elt F) (src.view.loc (c : Thread nD τ))}
    {Sd : Finset (Idx (dst.view.loc (c : Thread nD τ)))} {fd : Buf (Elt F) (dst.view.loc (c : Thread nD τ))}
    (hsm : sm = sm') (N : ℕ) (hN : dst.view.amount sm = N) (hN0 : 0 < N) (hSs : src.view.set ⊆ Ss) (hSd : dst.view.set ⊆ Sd)
    {D : sProp 𝕄} {Q : α → sProp 𝕄}
    (hD : (dst.view.loc (c : Thread nD τ) ↦[Sd]{fullShare} (dst.view.write (Elt F) fd (src.view.read (Elt F) fs) Finset.univ)) ⊢ D) :
    iprop((src.view.loc (c : Thread nD τ) ↦[Ss]{fullShare} fs) ∗ (dst.view.loc (c : Thread nD τ) ↦[Sd]{fullShare} fd)
        ∗ semVal ((c : Thread nD τ), sm') 0)
      ⊢ iprop((Flight EC (c : Thread nD τ) sm' () N iprop(D ∗ ∃ f, (src.view.loc (c : Thread nD τ) ↦[Ss]{fullShare} f))
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.here dst) sm hsrc hdst hsem) k) Q) := by
  subst hsm
  iintro ⟨Hs, Hd, Hv⟩ Hk
  ihave Hs := (pointsTo_split_subset hSs).1 $$ Hs
  icases Hs with ⟨Hs, Hr⟩
  iapply (Transfers.wp_dmaLocal EC Variants.none (c : Thread nD τ) none () N hN hN0 hSd) $$ [Hs Hd Hv]
  · isplitl [Hs]; · iexact Hs
    isplitl [Hd]
    · iexact Hd
    iexact Hv
  iintro Hf
  iapply Hk
  ihave Hf := (Flight_frame (F := F) c) $$ [Hf Hr]
  · isplitl [Hf]
    · iexact Hf
    iexact Hr
  iapply (Transfers.Flight_mono EC (c : Thread nD τ) ?_) $$ Hf
  iintro ⟨⟨Hd, Hs⟩, Hr⟩
  isplitl [Hd]
  · iapply hD $$ Hd
  iexists fs
  iapply (pointsTo_split_subset hSs).2
  isplitl [Hs]
  · iexact Hs
  iexact Hr

/-- Waiting for a copy in flight on the cell: the core goes on with what it delivers and the cell at zero. -/
theorem wp_wait {s' : Shape} {e : EltTy} {e' : EltTy} {sem : DmaSem sig} {sm' : SemLoc sig} {srcw : Memref sig .tc sp' s' e'}
    {dstw : Memref sig .tc sp s e} {hsrc : srcw.view.WordExact} {hdst : dstw.view.WordExact}
    (hsm : SemLoc.dma sem = sm') {N : ℕ} (hN : dstw.view.dmaCredit = N) {D : sProp 𝕄} {Q : α → sProp 𝕄} :
    iprop(Flight EC (c : Thread nD τ) sm' () N D ∗ (∃ W, owes (c : Thread nD τ) 0 W))
      ⊢ iprop((iprop(D ∗ semVal ((c : Thread nD τ), sm') 0 ∗ (∃ W, owes (c : Thread nD τ) 0 W))
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sem srcw dstw hsrc hdst) k) Q) := by
  subst hsm
  iintro ⟨HF, %W, HO⟩ Hk
  iapply (Transfers.wp_waitLocal EC Variants.none (c : Thread nD τ) none () hN) $$ [HF HO]
  · isplitl [HF]
    · iexact HF
    iexact HO
  iintro ⟨HD, Hv, HO⟩
  iapply Hk
  isplitl [HD]; · iexact HD
  isplitl [Hv]; · iexact Hv
  iexists _
  iexact HO

end Rules

/-! ## The pieces and the invariant -/

/-- Elements of the accumulator, of the array and of the second array, held whole-share at given contents. -/
abbrev accPt (c : Dev nD) (S : Finset S2x1024x2176.Idx) (f : AccV F) : sProp 𝕄 := accM.view.loc (c : Thread nD τ) ↦[S]{fullShare} f
abbrev outPt (c : Dev nD) (S : Finset S1024x100000.Idx) (f : OutV F) : sProp 𝕄 := outM.view.loc (c : Thread nD τ) ↦[S]{fullShare} f
abbrev tailPt (c : Dev nD) (f : TailV F) : sProp 𝕄 := tailM.view.loc (c : Thread nD τ) ↦[Finset.univ]{fullShare} f

/-- The completion cell of point `n`'s slot. -/
abbrev cellS (n : ℕ) : SemLoc sig := SemLoc.dma (⟨3 + n % 2, by have := Nat.mod_lt n (show 0 < 2 by omega); show 3 + n % 2 < 5; omega⟩ : DmaSem sig)

variable (Good : S1024x100000.Idx → Elt F .f32 → Prop) (TGood : S1024x128.Idx → Elt F .f32 → Prop) (V : OutV F) (c : Dev nD)

/-- Slot `n % 2` at some contents. -/
def SlotAny (n : ℕ) : sProp 𝕄 := iprop(∃ f, accPt c (slotS (n % 2)) f)
/-- Slot `n % 2` at some contents and its cell at zero: no copy in flight. -/
def Free (n : ℕ) : sProp 𝕄 := iprop(semVal ((c : Thread nD τ), cellS n) 0 ∗ SlotAny (F := F) c n)
/-- The columns from `lo` to `hi` at contents that are all good. -/
def Landed (lo hi : ℕ) : sProp 𝕄 := iprop(∃ f : OutV F, ⌜∀ i ∈ colS lo hi, Good i (f i)⌝ ∗ outPt c (colS lo hi) f)
/-- The second array at contents that are all good. -/
def TailLanded : sProp 𝕄 := iprop(∃ f : TailV F, ⌜∀ i, TGood i (f i)⌝ ∗ tailPt c f)
/-- The array without the columns from `lo` to `hi`: the columns below good, the columns above as the region found them. -/
def Rest (lo hi : ℕ) : sProp 𝕄 :=
  iprop(∃ f : OutV F, ⌜∀ i, ((i 1).val < lo → Good i (f i)) ∧ (hi ≤ (i 1).val → f i = V i)⌝ ∗ outPt c (Finset.univ \ colS lo hi) f)

/-- What a copy of a whole slot brings its cell. -/
def credN : ℕ := (cols (w := 2176) (off := ![0, 0]) (by decide)).dmaCredit

/-- What a slot holds on entry to point `n`: nothing in flight at the first two points, the copy started two points earlier
    after that. -/
def Pend (n : ℕ) : sProp 𝕄 :=
  if n < 2 then Free (F := F) c n
  else Flight EC (c : Thread nD τ) (cellS n) () credN iprop(Landed Good c (2176 * (n - 2)) (2176 * (n - 2) + 2176) ∗ SlotAny (F := F) c n)

/-- Landed columns put back below the missing ones. -/
theorem Rest_join {lo mid hi : ℕ} (h₁ : lo ≤ mid) (h₂ : mid ≤ hi) :
    iprop(Landed Good c lo mid ∗ Rest Good V c lo hi) ⊢ (Rest Good V c mid hi : sProp 𝕄) := by
  unfold Landed Rest
  iintro ⟨⟨%f, %hf, Hf⟩, ⟨%g, %hg, Hg⟩⟩
  have hd : Disjoint (colS lo mid) (Finset.univ \ colS lo hi) := by
    rw [Finset.disjoint_left]
    intro i hi' hn
    have := mem_colS.mp hi'
    exact (Finset.mem_sdiff.mp hn).2 (mem_colS.mpr ⟨this.1, by omega⟩)
  have hu : colS lo mid ∪ (Finset.univ \ colS lo hi) = Finset.univ \ colS mid hi := by
    ext i
    rw [Finset.mem_union, Finset.mem_sdiff, Finset.mem_sdiff, mem_colS, mem_colS, mem_colS]
    constructor
    · rintro (⟨a, b⟩ | ⟨_, b⟩)
      · exact ⟨Finset.mem_univ _, by omega⟩
      · exact ⟨Finset.mem_univ _, by omega⟩
    · rintro ⟨_, b⟩
      by_cases h : lo ≤ (i 1).val ∧ (i 1).val < mid
      · exact .inl h
      · exact .inr ⟨Finset.mem_univ _, by omega⟩
  iexists (Finset.univ \ colS lo hi).piecewise g f
  isplitr
  · ipureintro
    intro i
    by_cases hm : i ∈ Finset.univ \ colS lo hi
    · rw [Finset.piecewise_eq_of_mem _ _ _ hm]
      refine ⟨fun h => (hg i).1 ?_, (hg i).2⟩
      have := mt mem_colS.mpr (Finset.mem_sdiff.mp hm).2
      omega
    · rw [Finset.piecewise_eq_of_notMem _ _ _ hm]
      have hm' : i ∈ colS lo hi := by
        by_contra h
        exact hm (Finset.mem_sdiff.mpr ⟨Finset.mem_univ _, h⟩)
      have := mem_colS.mp hm'
      exact ⟨fun h => hf i (mem_colS.mpr ⟨this.1, h⟩), fun h => by omega⟩
  · rw [← hu]
    iapply (pointsTo_join hd)
    isplitl [Hf]
    · iexact Hf
    iexact Hg

/-- Columns above the missing ones taken out. -/
theorem Rest_carve {lo hi hi' : ℕ} (h₁ : lo ≤ hi) (h₂ : hi ≤ hi') :
    Rest Good V c lo hi ⊢ (iprop((∃ f, outPt c (colS hi hi') f) ∗ Rest Good V c lo hi') : sProp 𝕄) := by
  unfold Rest
  iintro ⟨%g, %hg, Hg⟩
  have hs : colS hi hi' ⊆ Finset.univ \ colS lo hi := by
    intro i h
    have := mem_colS.mp h
    exact Finset.mem_sdiff.mpr ⟨Finset.mem_univ _, fun h' => by have := mem_colS.mp h'; omega⟩
  have he : (Finset.univ \ colS lo hi) \ colS hi hi' = Finset.univ \ colS lo hi' := by
    ext i
    rw [Finset.mem_sdiff, Finset.mem_sdiff, Finset.mem_sdiff, mem_colS, mem_colS, mem_colS]
    constructor
    · rintro ⟨⟨_, a⟩, b⟩
      exact ⟨Finset.mem_univ _, by omega⟩
    · rintro ⟨_, a⟩
      exact ⟨⟨Finset.mem_univ _, by omega⟩, by omega⟩
  ihave Hg := (pointsTo_split_subset hs).1 $$ Hg
  icases Hg with ⟨H1, H2⟩
  isplitl [H1]
  · iexists g
    iexact H1
  · iexists g
    isplitr
    · ipureintro
      exact fun i => ⟨(hg i).1, fun h => (hg i).2 (by omega)⟩
    · rw [← he]
      iexact H2

/-- The cells and the slots alternate. -/
theorem cellS_add_two (n : ℕ) : cellS (n + 2) = cellS n := by
  have h : (n + 2) % 2 = n % 2 := by omega
  unfold cellS
  simp only [h]

/-- A copy started at point `n` is what its slot holds on entry to point `n + 2`. -/
theorem Pend_of_flight (n : ℕ) :
    Flight EC (c : Thread nD τ) (cellS n) () credN iprop(Landed Good c (2176 * n) (2176 * n + 2176) ∗ ∃ f, accPt c (slotS (n % 2)) f)
      ⊢ (Pend Good c (n + 2) : sProp 𝕄) := by
  unfold Pend SlotAny
  rw [if_neg (by omega), cellS_add_two, show n + 2 - 2 = n by omega, show (n + 2) % 2 = n % 2 by omega]

/-- After the first two points a slot's copy is in flight. -/
theorem Pend_flight (n : ℕ) (h : 2 ≤ n) :
    Pend Good c n ⊢ (Flight EC (c : Thread nD τ) (cellS n) () credN
        iprop(Landed Good c (2176 * (n - 2)) (2176 * (n - 1)) ∗ SlotAny (F := F) c n) : sProp 𝕄) := by
  unfold Pend
  rw [if_neg (by omega), show 2176 * (n - 2) + 2176 = 2176 * (n - 1) by omega]

/-- The invariant before point `n`, and after the last one: every copy has landed and nothing is in flight. -/
def Inv (n : ℕ) : sProp 𝕄 :=
  if n < 46 then
    iprop(Rest Good V c (2176 * (n - 2)) (2176 * n) ∗ (∃ f, tailPt c f) ∗ Pend Good c n ∗ Pend Good c (n + 1))
  else iprop(Rest Good V c 99968 99968 ∗ TailLanded TGood c ∗ Free (F := F) c 1 ∗ Free (F := F) c 0)

/-- Landed contents of the columns from `lo`, when they are a slot's whose elements are good. -/
theorem landed_of_write {w lo g : ℕ} {off : Fin 2 → ℕ} (inb : ∀ a, off a + (S2d w).size a ≤ S1024x100000.size a) {off' : Fin 3 → ℕ}
    (inb' : ∀ a, off' a + (S3 w).size a ≤ S2x1024x2176.size a) (hw : (S2d w).numel = (S3 w).numel) (h : off = ![0, lo])
    (h' : off' = ![g, 0, 0]) (fs : AccV F) (fd : OutV F)
    (hg : ∀ i : S1024x100000.Idx, ∀ k : S2x1024x2176.Idx, i ∈ colS lo (lo + w) → (k 0).val = g → (k 1).val = (i 0).val →
      lo + (k 2).val = (i 1).val → Good i (fs k)) :
    outPt c (colS lo (lo + w)) ((cols inb).write (Elt F) fd ((slab inb' hw).read (Elt F) fs) Finset.univ)
      ⊢ (Landed Good c lo (lo + w) : sProp 𝕄) := by
  unfold Landed
  iintro H
  iexists _
  isplitr
  swap
  · iexact H
  ipureintro
  intro i hi
  obtain ⟨k, k0, k1, k2, e⟩ := cols_landed inb inb' hw h h' fs fd i hi
  rw [e]
  exact hg i k hi k0 k1 k2

/-- The same for the second array. -/
theorem tail_of_write {g : ℕ} {off' : Fin 3 → ℕ} (inb' : ∀ a, off' a + (S3 128).size a ≤ S2x1024x2176.size a)
    (hw : (S2d 128).numel = (S3 128).numel) (inb : ∀ a, (![0, 0] : Fin 2 → ℕ) a + (S2d 128).size a ≤ S1024x128.size a)
    (h' : off' = ![g, 0, 0]) (fs : AccV F) (fd : TailV F)
    (hg : ∀ i : S1024x128.Idx, ∀ k : S2x1024x2176.Idx, (k 0).val = g → (k 1).val = (i 0).val → (k 2).val = (i 1).val → TGood i (fs k)) :
    tailPt c ((tailM.access (Rect.unit (s := S1024x128) ![0, 0] (S2d 128).size inb)).write (Elt F) fd
        ((slab inb' hw).read (Elt F) fs) Finset.univ)
      ⊢ (TailLanded TGood c : sProp 𝕄) := by
  unfold TailLanded
  iintro H
  iexists _
  isplitr
  swap
  · iexact H
  ipureintro
  intro i
  obtain ⟨k, k0, k1, k2, e⟩ := tail_landed inb' hw inb h' fs fd i
  rw [e]
  exact hg i k k0 k1 k2

/-! ## The two kinds of copy -/

section Copies

variable {c} {α : Type} {k : PUnit → Prog (TpuEff nD τ sig (Elt F) Λ₀ .tc) α}

/-- Copying a slot's first `w` columns to the array's columns from `lo`. -/
theorem wp_copy_cols {w lo g n : ℕ} {off : Fin 2 → ℕ} (inb : ∀ a, off a + (S2d w).size a ≤ S1024x100000.size a) {off' : Fin 3 → ℕ}
    (inb' : ∀ a, off' a + (S3 w).size a ≤ S2x1024x2176.size a) (hsq : (S3 w).Squeezes (S2d w)) (h : off = ![0, lo])
    (h' : off' = ![g, 0, 0]) (hpos : 0 < (S2d w).numel) {N : ℕ} (hN : (cols (w := w) inb).dmaCredit = N) {sm : SemLoc sig}
    {hsl : ∀ a, (Rect.unit (s := S2x1024x2176) off' (S3 w).size inb').stride a = 1}
    {hsl' : ∀ a, (Rect.unit (s := S1024x100000) off (S2d w).size inb).stride a = 1}
    {hsrc : ((accM.slice (Rect.unit (s := S2x1024x2176) off' (S3 w).size inb') hsl).squeeze (S2d w) hsq).view.WordExact}
    {hdst : (outM.slice (Rect.unit (s := S1024x100000) off (S2d w).size inb) hsl').view.WordExact}
    {hsem : DmaTarget.Typed (nD := nD) (τ := τ) (p := .tc) .vmem sm (.here (outM.slice (Rect.unit (s := S1024x100000) off (S2d w).size inb) hsl'))}
    (hsm : sm = cellS n) (f : AccV F) {Q : α → sProp 𝕄}
    (hg : ∀ i : S1024x100000.Idx, ∀ k : S2x1024x2176.Idx, i ∈ colS lo (lo + w) → (k 0).val = g → (k 1).val = (i 0).val →
      lo + (k 2).val = (i 1).val → Good i (f k)) :
    iprop(accPt c (slotS g) f ∗ (∃ fo, outPt c (colS lo (lo + w)) fo) ∗ semVal ((c : Thread nD τ), cellS n) 0)
      ⊢ iprop((Flight EC (c : Thread nD τ) (cellS n) () N
              iprop(Landed Good c lo (lo + w) ∗ ∃ f, accPt c (slotS g) f)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma ((accM.slice (Rect.unit (s := S2x1024x2176) off' (S3 w).size inb') hsl).squeeze (S2d w) hsq)
                (.here (outM.slice (Rect.unit (s := S1024x100000) off (S2d w).size inb) hsl')) sm hsrc hdst hsem) k) Q) := by
  subst hsm hN
  iintro ⟨Hs, ⟨%fo, Hd⟩, Hv⟩
  iapply (wp_start (F := F) (c := c) (k := k) (Q := Q) (src := (accM.slice (Rect.unit (s := S2x1024x2176) off' (S3 w).size inb') hsl).squeeze (S2d w) hsq)
    (dst := outM.slice (Rect.unit (s := S1024x100000) off (S2d w).size inb) hsl') (hsrc := hsrc) (hdst := hdst) (hsem := hsem)
    (Ss := slotS g) (fs := f) (Sd := colS lo (lo + w)) (fd := fo) (D := Landed Good c lo (lo + w)) rfl (cols (w := w) inb).dmaCredit rfl
    (View.dmaCredit_pos _ hpos) (slab_subset (w := w) inb' hsq.numel_eq h') (cols_set (w := w) inb h).le
    (landed_of_write Good c (w := w) inb inb' hsq.numel_eq h h' f fo hg)) $$ [Hs Hd Hv]
  isplitl [Hs]; · iexact Hs
  isplitl [Hd]; · iexact Hd
  iexact Hv

/-- Copying a slot's first 128 columns to the second array. -/
theorem wp_copy_tail {g n : ℕ} {off' : Fin 3 → ℕ} (inb : ∀ a, (![0, 0] : Fin 2 → ℕ) a + (S2d 128).size a ≤ S1024x128.size a)
    (inb' : ∀ a, off' a + (S3 128).size a ≤ S2x1024x2176.size a) (hsq : (S3 128).Squeezes (S2d 128))
    (h' : off' = ![g, 0, 0]) {sm : SemLoc sig}
    {hsl : ∀ a, (Rect.unit (s := S2x1024x2176) off' (S3 128).size inb').stride a = 1}
    {hsl' : ∀ a, (Rect.unit (s := S1024x128) ![0, 0] (S2d 128).size inb).stride a = 1}
    {hsrc : ((accM.slice (Rect.unit (s := S2x1024x2176) off' (S3 128).size inb') hsl).squeeze (S2d 128) hsq).view.WordExact}
    {hdst : (tailM.slice (Rect.unit (s := S1024x128) ![0, 0] (S2d 128).size inb) hsl').view.WordExact}
    {hsem : DmaTarget.Typed (nD := nD) (τ := τ) (p := .tc) .vmem sm (.here (tailM.slice (Rect.unit (s := S1024x128) ![0, 0] (S2d 128).size inb) hsl'))}
    (hsm : sm = cellS n) (f : AccV F) {Q : α → sProp 𝕄}
    (hg : ∀ i : S1024x128.Idx, ∀ k : S2x1024x2176.Idx, (k 0).val = g → (k 1).val = (i 0).val → (k 2).val = (i 1).val → TGood i (f k)) :
    iprop(accPt c (slotS g) f ∗ (∃ ft, tailPt c ft) ∗ semVal ((c : Thread nD τ), cellS n) 0)
      ⊢ iprop((Flight EC (c : Thread nD τ) (cellS n) () (tailM.access (Rect.unit (s := S1024x128) ![0, 0] (S2d 128).size inb)).dmaCredit
              iprop(TailLanded TGood c ∗ ∃ f, accPt c (slotS g) f)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma ((accM.slice (Rect.unit (s := S2x1024x2176) off' (S3 128).size inb') hsl).squeeze (S2d 128) hsq)
                (.here (tailM.slice (Rect.unit (s := S1024x128) ![0, 0] (S2d 128).size inb) hsl')) sm hsrc hdst hsem) k) Q) := by
  subst hsm
  iintro ⟨Hs, ⟨%ft, Hd⟩, Hv⟩
  iapply (wp_start (F := F) (c := c) (k := k) (Q := Q) (src := (accM.slice (Rect.unit (s := S2x1024x2176) off' (S3 128).size inb') hsl).squeeze (S2d 128) hsq)
    (dst := tailM.slice (Rect.unit (s := S1024x128) ![0, 0] (S2d 128).size inb) hsl') (hsrc := hsrc) (hdst := hdst) (hsem := hsem)
    (Ss := slotS g) (fs := f) (Sd := Finset.univ) (fd := ft) (D := TailLanded TGood c) rfl
    (tailM.access (Rect.unit (s := S1024x128) ![0, 0] (S2d 128).size inb)).dmaCredit rfl
    (View.dmaCredit_pos _ (show 0 < (S2d 128).numel by decide)) (slab_subset (w := 128) inb' hsq.numel_eq h') (Finset.subset_univ _)
    (tail_of_write TGood c inb' hsq.numel_eq inb h' f ft hg)) $$ [Hs Hd Hv]
  isplitl [Hs]; · iexact Hs
  isplitl [Hd]; · iexact Hd
  iexact Hv

end Copies

end Cert.KernelIdeal.Hand

end
-- ==== Proof.Body.lean ====
/-
  The body at one point: from the invariant before the point to the invariant after it.

  The three kinds of point differ in what they wait for: the first two wait for nothing, those after wait for the copy
  of their own slot, and the last waits for every copy it and the point before it started, after it has computed the
  last 128 rows' products once more into the other slot and copied them to the second array.
-/
module

public import proofs.«01_k».proof.Proof.Ring
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ (Pipeline.UD sig nD τ) ℕ

/-! ## The conditions over the grid's points -/

/-- The first condition holds from the third point on. -/
theorem cond1_iff : ∀ i : grid0.Coords, k0_cond1 i = 1#1 ↔ 2 ≤ (i 0).val := by decide +kernel
/-- The second condition holds before the last point. -/
theorem cond2_iff : ∀ i : grid0.Coords, k0_cond2 i = 1#1 ↔ (i 0).val < 45 := by decide +kernel
/-- The third condition holds at the last point. -/
theorem cond3_iff : ∀ i : grid0.Coords, k0_cond3 i = 1#1 ↔ (i 0).val = 45 := by decide +kernel

/-! ## A slot filled -/

/-- The contents `f` of slot `g` after a store of `p` into its first `w` columns: each element there is `p`'s at the same
    row and column. -/
def Filled (g w : ℕ) (p : (S3 w).Idx → Elt F .f32) (f : AccV F) : Prop :=
  ∀ k : S2x1024x2176.Idx, (k 0).val = g → (k 2).val < w → ∃ y : (S3 w).Idx, (y 1).val = (k 1).val ∧ (y 2).val = (k 2).val ∧ f k = p y

/-- Reading the two blocks, reading the slot's old contents (which nothing uses) and storing the payload of the two reads
    into the slot. -/
theorem wp_fill {c : Dev nD} {α : Type} {k : PUnit → Prog (TpuEff nD τ sig (Elt F) Λ₀ .tc) α} {Q : α → sProp 𝕄}
    {arg1 : Memref sig .tc .vmem S1024x128 .f32} {arg2 : Memref sig .tc .vmem S2176x128 .f32} {r1 : Rect S1024x128} {r2 : Rect S2176x128}
    {g w : ℕ} {off : Fin 3 → ℕ} (inb : ∀ a, off a + (S3 w).size a ≤ S2x1024x2176.size a) (h : off = ![g, 0, 0])
    (pay : (r1.shape.Idx → Elt F .f32) → (r2.shape.Idx → Elt F .f32) → (S3 w).Idx → Elt F .f32)
    {hl1 : arg1.view.LoadsAt r1.toLoadRect} {hl2 : arg2.view.LoadsAt r2.toLoadRect}
    {hl3 : accM.view.LoadsAt (Rect.unit (s := S2x1024x2176) off (S3 w).size inb).toLoadRect}
    {hx : (accM.access (Rect.unit (s := S2x1024x2176) off (S3 w).size inb)).Stores Finset.univ}
    {hm : Finset.univ = Finset.univ ∨ ∀ a, (Rect.unit (s := S2x1024x2176) off (S3 w).size inb).stride a = 1}
    (X0 : S1024x128.Idx → Elt F .f32) (X1 : S2176x128.Idx → Elt F .f32) :
    iprop(owns (c : Thread nD τ) arg1 fullShare X0 ∗ owns (c : Thread nD τ) arg2 fullShare X1 ∗ (∃ f, accPt c (slotS g) f))
      ⊢ iprop((iprop(owns (c : Thread nD τ) arg1 fullShare X0 ∗ owns (c : Thread nD τ) arg2 fullShare X1
              ∗ (∃ f, ⌜Filled g w (pay (View.ld X0 r1) (View.ld X1 r2)) f⌝ ∗ accPt c (slotS g) f))
            -∗ wp frame (wpE (defs₀ (F := F)) Variants.none (c : Thread nD τ) none) Set.univ (k ⟨⟩) Q)
          -∗ wp frame (wpE (defs₀ (F := F)) Variants.none (c : Thread nD τ) none) Set.univ
              (.op (.load arg1 r1.toLoadRect hl1) fun v => .op (.load arg2 r2.toLoadRect hl2) fun v' =>
                .op (.load accM (Rect.unit (s := S2x1024x2176) off (S3 w).size inb).toLoadRect hl3) fun _ =>
                .op (.store accM (Rect.unit (s := S2x1024x2176) off (S3 w).size inb) (pay v v') Finset.univ hx hm) k) Q) := by
  unfold owns
  iintro ⟨⟨%f1, %e1, H1⟩, ⟨%f2, %e2, H2⟩, ⟨%f, Hf⟩⟩ Hk
  subst e1
  subst e2
  iapply (wp_load_rect (m := arg1) (r := r1) (S := arg1.view.set) (q := fullShare) (f := f1) Variants.none (c : Thread nD τ) none Set.univ (View.set_slice_subset _ _)) $$ H1
  iintro H1
  iapply (wp_load_rect (m := arg2) (r := r2) (S := arg2.view.set) (q := fullShare) (f := f2) Variants.none (c : Thread nD τ) none Set.univ (View.set_slice_subset _ _)) $$ H2
  iintro H2
  iapply (wp_load_rect (m := accM) (r := Rect.unit (s := S2x1024x2176) off (S3 w).size inb) (S := slotS g) (q := fullShare) (f := f)
    Variants.none (c : Thread nD τ) none Set.univ (slab3_subset inb h)) $$ Hf
  iintro Hf
  iapply (wp_store (m := accM) (r := Rect.unit (s := S2x1024x2176) off (S3 w).size inb) (S := slotS g) (f := f)
    Variants.none (c : Thread nD τ) none Set.univ (slab3_subset inb h)) $$ Hf
  iintro Hf
  iapply Hk
  isplitl [H1]
  · iexists f1
    isplitr
    · ipureintro; rfl
    iexact H1
  isplitl [H2]
  · iexists f2
    isplitr
    · ipureintro; rfl
    iexact H2
  iexists _
  isplitr
  swap
  · iexact Hf
  ipureintro
  exact fun k hk hw => slab3_write inb h f _ k hk hw

/-! ## The points -/

section Points

variable {Good : S1024x100000.Idx → Elt F .f32 → Prop} {TGood : S1024x128.Idx → Elt F .f32 → Prop} {V : OutV F} {c : Dev nD}

/-- The two blocks a point reads. -/
abbrev Blocks (c : Dev nD) (arg1 : Memref sig .tc .vmem S1024x128 .f32) (arg2 : Memref sig .tc .vmem S2176x128 .f32)
    (X0 : S1024x128.Idx → Elt F .f32) (X1 : S2176x128.Idx → Elt F .f32) : sProp 𝕄 :=
  iprop(owns (c : Thread nD τ) arg1 fullShare X0 ∗ owns (c : Thread nD τ) arg2 fullShare X1)

/-- What point `n`'s products are to be: good at the columns from `2176 * n`, as far as these are written. -/
def PayGood (Good : S1024x100000.Idx → Elt F .f32 → Prop) (n : ℕ) (p : S1x1024x2176.Idx → Elt F .f32) : Prop :=
  ∀ (i : S1024x100000.Idx) (y : S1x1024x2176.Idx), (y 1).val = (i 0).val → 2176 * n + (y 2).val = (i 1).val → (i 1).val < 99968 → Good i (p y)
/-- What the last rows' products are to be: good at the second array's elements. -/
def TailPayGood (TGood : S1024x128.Idx → Elt F .f32 → Prop) (p : S1x1024x128.Idx → Elt F .f32) : Prop :=
  ∀ (i : S1024x128.Idx) (y : S1x1024x128.Idx), (y 1).val = (i 0).val → (y 2).val = (i 1).val → TGood i (p y)

/-- The last 128 rows of the block the last point reads. -/
abbrev lastRows : Rect S2176x128 := Rect.unit (s := S2176x128) ![1952, 0] S128x128.size inb_S2176x128_S128x128_1952_0
/-- The whole blocks. -/
abbrev wholeX : Rect S1024x128 := Rect.unit (s := S1024x128) ![0, 0] S1024x128.size inb_S1024x128_S1024x128_0_0
abbrev wholeM : Rect S2176x128 := Rect.unit (s := S2176x128) ![0, 0] S2176x128.size inb_S2176x128_S2176x128_0_0

/-- The wait at the head of a point: none at the first two, then for the copy of the point's own slot. Afterwards the slot is
    free and the columns of the copy are back. -/
theorem wp_wait_own (i : grid0.Coords) (n : ℕ) (hi : (i 0).val = n) {α : Type} {K : Prog (TpuEff nD τ sig (Elt F) Λ₀ .tc) α} {Q : α → sProp 𝕄}
    {sem : k0_cond1 i = 1#1 → DmaSem sig} {src : k0_cond1 i = 1#1 → Memref sig .tc .vmem S1024x2176 .f32}
    {dst : k0_cond1 i = 1#1 → Memref sig .tc .hbm S1024x2176 .f32}
    {hsrc : ∀ h, (src h).view.WordExact} {hdst : ∀ h, (dst h).view.WordExact}
    (hsem : ∀ h, SemLoc.dma (sem h) = cellS n) (hN : ∀ h, (dst h).view.dmaCredit = credN) :
    iprop(Pend Good c n ∗ Rest Good V c (2176 * (n - 2)) (2176 * n) ∗ (∃ W, owes (c : Thread nD τ) 0 W))
      ⊢ iprop((iprop(Free (F := F) c n ∗ Rest Good V c (2176 * (n - 1)) (2176 * n) ∗ (∃ W, owes (c : Thread nD τ) 0 W))
            -∗ wp frame (wpE (defs₀ (F := F)) Variants.none (c : Thread nD τ) none) Set.univ K Q)
          -∗ wp frame (wpE (defs₀ (F := F)) Variants.none (c : Thread nD τ) none) Set.univ
              (if h : k0_cond1 i = 1#1 then .op (.waitDma2 (sem h) (src h) (dst h) (hsrc h) (hdst h)) fun _ => K else K) Q) := by
  by_cases h : k0_cond1 i = 1#1
  · have hn := (cond1_iff i).mp h
    rw [dif_pos h]
    unfold Pend
    rw [if_neg (by omega)]
    iintro ⟨HF, HR, HO⟩ Hk
    iapply (wp_wait (hsem h) (hN h)) $$ [HF HO]
    · isplitl [HF]
      · iexact HF
      iexact HO
    iintro ⟨⟨HL, HS⟩, Hv, HO⟩
    iapply Hk
    isplitl [Hv HS]
    · unfold Free
      isplitl [Hv]
      · iexact Hv
      iexact HS
    isplitl [HL HR]
    · rw [show 2176 * (n - 2) + 2176 = 2176 * (n - 1) by omega]
      iapply (Rest_join Good V c (lo := 2176 * (n - 2)) (mid := 2176 * (n - 1)) (hi := 2176 * n) (by omega) (by omega)) $$ [HL HR]
      isplitl [HL]
      · iexact HL
      iexact HR
    iexact HO
  · have hn : ¬ 2 ≤ (i 0).val := fun h' => h ((cond1_iff i).mpr h')
    rw [dif_neg h]
    unfold Pend
    rw [if_pos (by omega), show n - 2 = n - 1 by omega]
    iintro H Hk
    iapply Hk $$ H

/-- A point before the last: wait for the slot, fill it, start its copy. -/
theorem point_inner (i : grid0.Coords) (n : ℕ) (hi : (i 0).val = n) (hn : n < 45)
    (arg1 : Memref sig .tc .vmem S1024x128 .f32) (harg1 : arg1.IsWhole) (arg2 : Memref sig .tc .vmem S2176x128 .f32) (harg2 : arg2.IsWhole)
    (X0 : S1024x128.Idx → Elt F .f32) (X1 : S2176x128.Idx → Elt F .f32)
    (hp : PayGood Good n (k0_pay1 (View.ld X0 wholeX) (View.ld X1 wholeM))) :
    iprop(Inv Good TGood V c n ∗ Blocks c arg1 arg2 X0 X1 ∗ (∃ W, owes (c : Thread nD τ) 0 W))
      ⊢ wp frame (wpE (defs₀ (F := F)) Variants.none (c : Thread nD τ) none) Set.univ
          (cc0__mm_kernel_skel i arg1 harg1 arg2 harg2 outM (Memref.isWhole_whole _) tailM (Memref.isWhole_whole _) accM (Memref.isWhole_whole _) cc0_scratch1)
          (fun _ => iprop(Inv Good TGood V c (n + 1) ∗ Blocks c arg1 arg2 X0 X1 ∗ (∃ W, owes (c : Thread nD τ) 0 W))) := by
  have h2 : k0_cond2 i = 1#1 := (cond2_iff i).mpr (by omega)
  have h3 : ¬ k0_cond3 i = 1#1 := fun h => by have := (cond3_iff i).mp h; omega
  have hg : n % 2 < 2 := Nat.mod_lt _ (by omega)
  unfold cc0__mm_kernel_skel
  simp only [dif_pos h2, dif_neg h3, Prog.bind_lift, Prog.bind_op, Prog.bind_ret, Prog.pure_eq_ret]
  unfold Inv
  rw [if_pos (by omega), if_pos (by omega)]
  iintro ⟨⟨HR, HT, HP, HP'⟩, ⟨H0, H1⟩, HO⟩
  iapply (wp_wait_own (Good := Good) (V := V) i n hi (fun h => congrArg SemLoc.dma (cell_eq (k0_off1_inb i h) (n % 2) (by omega) (by rw [k0_off1_eq, hi])))
    (fun _ => rfl)) $$ [HP HR HO]
  · isplitl [HP]; · iexact HP
    isplitl [HR]; · iexact HR
    iexact HO
  iintro ⟨HF, HR, HO⟩
  unfold Free SlotAny
  icases HF with ⟨Hv, HS⟩
  have e4 : k0_off4 i = ![n % 2, 0, 0] := by rw [k0_off4_eq, hi]
  iapply (wp_fill (F := F) (c := c) (arg1 := arg1) (arg2 := arg2) (r1 := wholeX) (r2 := wholeM) (w := 2176) (k0_off4_inb i) e4 (k0_pay1 (F := F)) X0 X1) $$ [H0 H1 HS]
  · isplitl [H0]; · iexact H0
    isplitl [H1]; · iexact H1
    iexact HS
  iintro ⟨H0, H1, ⟨%f, %hf, HS⟩⟩
  ihave HR := (Rest_carve Good V c (lo := 2176 * (n - 1)) (hi := 2176 * n) (hi' := 2176 * n + 2176) (by omega) (by omega)) $$ HR
  icases HR with ⟨HC, HR⟩
  have e6 : k0_off6 i = ![0, 2176 * n] := by rw [k0_off6_eq, hi]
  have e7 : k0_off7 i = ![n % 2, 0, 0] := by rw [k0_off7_eq, hi]
  iapply (wp_copy_cols Good (w := 2176) (lo := 2176 * n) (g := n % 2) (n := n) (k0_off6_inb i h2) (k0_off7_inb i h2) _ e6 e7 (by decide) (N := credN) rfl
    (congrArg SemLoc.dma (cell_eq (k0_off5_inb i h2) (n % 2) (by omega) (by rw [k0_off5_eq, hi]))) f ?_) $$ [HS HC Hv]
  · intro i' k hi' k0 k1 k2
    have hc := mem_colS.mp hi'
    obtain ⟨y, y1, y2, e⟩ := hf k k0 (by omega)
    rw [e]
    exact hp i' y (by omega) (by omega) (by omega)
  · isplitl [HS]; · iexact HS
    isplitl [HC]; · iexact HC
    iexact Hv
  iintro HF
  rw [wp_ret]
  imodintro
  isplitl [HR HT HF HP']
  · isplitl [HR]
    · iexact HR
    isplitl [HT]
    · iexact HT
    isplitl [HP']
    · iexact HP'
    iapply (Pend_of_flight Good c n) $$ HF
  isplitl [H0 H1]
  · isplitl [H0]
    · iexact H0
    iexact H1
  iexact HO

/-- The last point: wait for the slot, fill it, start the copy of its first 2048 columns; wait for the other slot's copy,
    fill that slot with the last 128 rows' products, start their copy to the second array; wait for both. -/
theorem point_last (i : grid0.Coords) (hi : (i 0).val = 45)
    (arg1 : Memref sig .tc .vmem S1024x128 .f32) (harg1 : arg1.IsWhole) (arg2 : Memref sig .tc .vmem S2176x128 .f32) (harg2 : arg2.IsWhole)
    (X0 : S1024x128.Idx → Elt F .f32) (X1 : S2176x128.Idx → Elt F .f32)
    (hp : PayGood Good 45 (k0_pay1 (View.ld X0 wholeX) (View.ld X1 wholeM)))
    (hp' : TailPayGood TGood (k0_pay2 (View.ld X0 wholeX) (View.ld X1 lastRows))) :
    iprop(Inv Good TGood V c 45 ∗ Blocks c arg1 arg2 X0 X1 ∗ (∃ W, owes (c : Thread nD τ) 0 W))
      ⊢ wp frame (wpE (defs₀ (F := F)) Variants.none (c : Thread nD τ) none) Set.univ
          (cc0__mm_kernel_skel i arg1 harg1 arg2 harg2 outM (Memref.isWhole_whole _) tailM (Memref.isWhole_whole _) accM (Memref.isWhole_whole _) cc0_scratch1)
          (fun _ => iprop(Inv Good TGood V c 46 ∗ Blocks c arg1 arg2 X0 X1 ∗ (∃ W, owes (c : Thread nD τ) 0 W))) := by
  have h2 : ¬ k0_cond2 i = 1#1 := fun h => by have := (cond2_iff i).mp h; omega
  have h3 : k0_cond3 i = 1#1 := (cond3_iff i).mpr hi
  unfold cc0__mm_kernel_skel
  simp only [dif_pos h3, dif_neg h2, k0_part1_eq_skeleton, k0_part1_skel, Prog.bind_lift, Prog.bind_op, Prog.bind_ret, Prog.pure_eq_ret]
  unfold Inv
  rw [if_pos (by omega), if_neg (by omega)]
  iintro ⟨⟨HR, HT, HP, HP'⟩, ⟨H0, H1⟩, HO⟩
  iapply (wp_wait_own (Good := Good) (V := V) i 45 hi (fun h => congrArg SemLoc.dma (cell_eq (k0_off1_inb i h) 1 (by omega) (by rw [k0_off1_eq, hi])))
    (fun _ => rfl)) $$ [HP HR HO]
  · isplitl [HP]; · iexact HP
    isplitl [HR]; · iexact HR
    iexact HO
  iintro ⟨HF, HR, HO⟩
  unfold Free SlotAny
  icases HF with ⟨Hv, HS⟩
  have e4 : k0_off4 i = ![1, 0, 0] := by rw [k0_off4_eq, hi]
  iapply (wp_fill (F := F) (c := c) (arg1 := arg1) (arg2 := arg2) (r1 := wholeX) (r2 := wholeM) (w := 2176) (k0_off4_inb i) e4 (k0_pay1 (F := F)) X0 X1) $$ [H0 H1 HS]
  · isplitl [H0]; · iexact H0
    isplitl [H1]; · iexact H1
    iexact HS
  iintro ⟨H0, H1, ⟨%f, %hf, HS⟩⟩
  ihave HR := (Rest_carve Good V c (lo := 2176 * 44) (hi := 2176 * 45) (hi' := 99968) (by omega) (by omega)) $$ HR
  icases HR with ⟨HC, HR⟩
  have e9 : k0_off9 i = ![0, 2176 * 45] := by rw [k0_off9_eq, hi]
  have e10 : k0_off10 i = ![1, 0, 0] := by rw [k0_off10_eq, hi]
  iapply (wp_copy_cols Good (w := 2048) (lo := 2176 * 45) (g := 1) (n := 45) (k0_off9_inb i h3) (k0_off10_inb i h3) _ e9 e10 (by decide) rfl
    (congrArg SemLoc.dma (cell_eq (k0_off8_inb i h3) 1 (by omega) (by rw [k0_off8_eq, hi]))) f ?_) $$ [HS HC Hv]
  · intro i' k hi' k0 k1 k2
    have hc := mem_colS.mp hi'
    obtain ⟨y, y1, y2, e⟩ := hf k k0 (by omega)
    rw [e]
    exact hp i' y (by omega) (by omega) (by omega)
  · isplitl [HS]; · iexact HS
    isplitl [HC]; · iexact HC
    iexact Hv
  iintro HF
  -- the other slot's copy
  ihave HP' := (Pend_flight Good c 46 (by omega)) $$ HP'
  have e11 : SemLoc.dma ((cc0_scratch1.slice (Rect.unit (s := S2) (k0_off11 i) S1.size (k0_off11_inb i h3))).squeeze S_ squeezes_S1_S_).sem = cellS 46 :=
    congrArg SemLoc.dma (cell_eq (k0_off11_inb i h3) 0 (by omega) (by rw [k0_off11_eq, hi]))
  iapply (wp_wait e11 rfl) $$ [HP' HO]
  · isplitl [HP']
    · iexact HP'
    iexact HO
  iintro ⟨⟨HL, HS⟩, Hv, HO⟩
  ihave HR := (Rest_join Good V c (lo := 2176 * 44) (mid := 2176 * 45) (hi := 99968) (by omega) (by omega)) $$ [HL HR]
  · isplitl [HL]
    · iexact HL
    iexact HR
  unfold SlotAny
  have e14 : k0_off14 i = ![0, 0, 0] := by rw [k0_off14_eq, hi]
  iapply (wp_fill (F := F) (c := c) (arg1 := arg1) (arg2 := arg2) (r1 := wholeX) (r2 := lastRows) (w := 128) (k0_off14_inb i h3) e14 (k0_pay2 (F := F)) X0 X1) $$ [H0 H1 HS]
  · isplitl [H0]; · iexact H0
    isplitl [H1]; · iexact H1
    iexact HS
  iintro ⟨H0, H1, ⟨%f', %hf', HS⟩⟩
  have e15 : k0_off15 i = ![0, 0, 0] := by rw [k0_off15_eq, hi]
  iapply (wp_copy_tail TGood (g := 0) (n := 46) _ (k0_off15_inb i h3) _ e15 e11 f' ?_) $$ [HS HT Hv]
  · intro i' k k0 k1 k2
    have hb : (i' 1).val < 128 := (i' 1).isLt
    obtain ⟨y, y1, y2, e⟩ := hf' k k0 (by omega)
    rw [e]
    exact hp' i' y (by omega) (by omega)
  · isplitl [HS]; · iexact HS
    isplitl [HT]; · iexact HT
    iexact Hv
  iintro HF'
  iapply (wp_wait (congrArg SemLoc.dma (cell_eq (k0_off8_inb i h3) 1 (by omega) (by rw [k0_off8_eq, hi]))) rfl) $$ [HF HO]
  · isplitl [HF]
    · iexact HF
    iexact HO
  iintro ⟨⟨HL, HS⟩, Hv, HO⟩
  ihave HR := (Rest_join Good V c (lo := 2176 * 45) (mid := 99968) (hi := 99968) (by omega) (by omega)) $$ [HL HR]
  · isplitl [HL]
    · iexact HL
    iexact HR
  iapply (wp_wait e11 rfl) $$ [HF' HO]
  · isplitl [HF']
    · iexact HF'
    iexact HO
  iintro ⟨⟨HT, HS'⟩, Hv', HO⟩
  rw [wp_ret]
  imodintro
  isplitl [HR HT HS Hv HS' Hv']
  · isplitl [HR]
    · iexact HR
    isplitl [HT]
    · iexact HT
    isplitl [HS Hv]
    · isplitl [Hv]
      · iexact Hv
      iexact HS
    isplitl [Hv']
    · iexact Hv'
    iexact HS'
  isplitl [H0 H1]
  · isplitl [H0]
    · iexact H0
    iexact H1
  iexact HO

/-- Any point. -/
theorem point_run (i : grid0.Coords) (n : ℕ) (hi : (i 0).val = n)
    (arg1 : Memref sig .tc .vmem S1024x128 .f32) (harg1 : arg1.IsWhole) (arg2 : Memref sig .tc .vmem S2176x128 .f32) (harg2 : arg2.IsWhole)
    (X0 : S1024x128.Idx → Elt F .f32) (X1 : S2176x128.Idx → Elt F .f32)
    (hp : PayGood Good n (k0_pay1 (View.ld X0 wholeX) (View.ld X1 wholeM)))
    (hp' : n = 45 → TailPayGood TGood (k0_pay2 (View.ld X0 wholeX) (View.ld X1 lastRows))) :
    iprop(Inv Good TGood V c n ∗ Blocks c arg1 arg2 X0 X1 ∗ (∃ W, owes (c : Thread nD τ) 0 W))
      ⊢ wp frame (wpE (defs₀ (F := F)) Variants.none (c : Thread nD τ) none) Set.univ
          (cc0__mm_kernel_skel i arg1 harg1 arg2 harg2 outM (Memref.isWhole_whole _) tailM (Memref.isWhole_whole _) accM (Memref.isWhole_whole _) cc0_scratch1)
          (fun _ => iprop(Inv Good TGood V c (n + 1) ∗ Blocks c arg1 arg2 X0 X1 ∗ (∃ W, owes (c : Thread nD τ) 0 W))) := by
  have hb : (i 0).val < 46 := (i 0).isLt
  by_cases hn : n < 45
  · exact point_inner i n hi hn arg1 harg1 arg2 harg2 X0 X1 hp
  · obtain rfl : n = 45 := by omega
    exact point_last i hi arg1 harg1 arg2 harg2 X0 X1 hp (hp' rfl)

end Points

end Cert.KernelIdeal.Hand

end
-- ==== Proof.Launch.lean ====
/-
  The region's proof data: the two blocks each point reads, the ring's invariant between points, and the body's
  obligation; and what the invariant is made from when the region is entered and yields when it is left.
-/
module

public import proofs.«01_k».proof.Proof.Body
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (Pipeline.UD sig nD τ) ℕ

/-! ## In and out of the invariant -/

section Ends

variable (Good : S1024x100000.Idx → Elt F .f32 → Prop) (TGood : S1024x128.Idx → Elt F .f32 → Prop) (V : OutV F) (c : Dev nD)

theorem slotS_union : slotS 0 ∪ slotS 1 = Finset.univ := by
  ext j
  have hj : (j 0).val < 2 := (j 0).isLt
  rw [Finset.mem_union, mem_slotS, mem_slotS]
  exact ⟨fun _ => Finset.mem_univ _, fun _ => by omega⟩

theorem slotS_disjoint : Disjoint (slotS 0) (slotS 1) := by
  rw [Finset.disjoint_left]
  intro j h h'
  have := mem_slotS.mp h
  have := mem_slotS.mp h'
  omega

/-- The accumulator is its two slots. -/
theorem acc_split (f : AccV F) : accPt c Finset.univ f ⊢ (iprop(accPt c (slotS 0) f ∗ accPt c (slotS 1) f) : sProp 𝕄) := by
  rw [← slotS_union]
  exact (pointsTo_union slotS_disjoint).1

/-- The two slots are the accumulator, at some contents. -/
theorem acc_join : iprop((∃ f, accPt c (slotS 0) f) ∗ (∃ f, accPt c (slotS 1) f)) ⊢ (iprop(∃ f, accPt c Finset.univ f) : sProp 𝕄) := by
  iintro ⟨⟨%f, Hf⟩, ⟨%g, Hg⟩⟩
  iexists (slotS 1).piecewise g f
  rw [← slotS_union]
  iapply (pointsTo_join slotS_disjoint)
  isplitl [Hf]
  · iexact Hf
  iexact Hg

/-- Entering: the accumulator, the two cells at zero, the array as the region finds it, the second array. -/
theorem Inv_enter : iprop((∃ f, accPt c Finset.univ f) ∗ (semVal ((c : Thread nD τ), cellS 0) 0 ∗ semVal ((c : Thread nD τ), cellS 1) 0)
      ∗ outPt c Finset.univ V ∗ (∃ f, tailPt c f))
    ⊢ (Inv Good TGood V c 0 : sProp 𝕄) := by
  unfold Inv Pend Free SlotAny Rest
  rw [if_pos (by omega), if_pos (by omega), if_pos (by omega)]
  iintro ⟨⟨%f, Hf⟩, ⟨Hv0, Hv1⟩, HO, HT⟩
  ihave Hf := (acc_split c f) $$ Hf
  icases Hf with ⟨Hf0, Hf1⟩
  isplitl [HO]
  · iexists V
    isplitr
    · ipureintro
      exact fun i => ⟨fun h => absurd h (by omega), fun _ => rfl⟩
    rw [show Finset.univ \ colS (2176 * (0 - 2)) (2176 * 0) = Finset.univ by
      ext i; rw [Finset.mem_sdiff, mem_colS]; exact ⟨fun _ => Finset.mem_univ _, fun _ => ⟨Finset.mem_univ _, by omega⟩⟩]
    iexact HO
  isplitl [HT]
  · iexact HT
  isplitl [Hf0 Hv0]
  · isplitl [Hv0]
    · iexact Hv0
    iexists f
    iexact Hf0
  isplitl [Hv1]
  · iexact Hv1
  iexists f
  iexact Hf1

/-- What the array holds at the end: good below column 99968, as the region found it from there on. -/
def OutEnd (f : OutV F) : Prop := ∀ i : S1024x100000.Idx, ((i 1).val < 99968 → Good i (f i)) ∧ (99968 ≤ (i 1).val → f i = V i)

/-- Leaving: the same, the array and the second array at contents that are as they should be. -/
theorem Inv_leave : Inv Good TGood V c 46
    ⊢ (iprop((∃ f, accPt c Finset.univ f) ∗ (semVal ((c : Thread nD τ), cellS 0) 0 ∗ semVal ((c : Thread nD τ), cellS 1) 0)
      ∗ (∃ f, ⌜OutEnd Good V f⌝ ∗ outPt c Finset.univ f) ∗ (∃ f, ⌜∀ i, TGood i (f i)⌝ ∗ tailPt c f)) : sProp 𝕄) := by
  unfold Inv Free SlotAny Rest TailLanded
  rw [if_neg (by omega), show Finset.univ \ colS 99968 99968 = Finset.univ by
      ext i; rw [Finset.mem_sdiff, mem_colS]; exact ⟨fun _ => Finset.mem_univ _, fun _ => ⟨Finset.mem_univ _, by omega⟩⟩]
  iintro ⟨HR, HT, ⟨Hv1, Hs1⟩, ⟨Hv0, Hs0⟩⟩
  isplitl [Hs0 Hs1]
  · iapply (acc_join c)
    isplitl [Hs0]
    · iexact Hs0
    iexact Hs1
  isplitl [Hv0 Hv1]
  · isplitl [Hv0]
    · iexact Hv0
    iexact Hv1
  isplitl [HR]
  · iexact HR
  iexact HT

end Ends

/-! ## The proof data -/

variable (m : (ℓ : Loc nD τ sig) → Buf (Elt F) ℓ)
  (Good : Dev nD → S1024x100000.Idx → Elt F .f32 → Prop) (TGood : Dev nD → S1024x128.Idx → Elt F .f32 → Prop)
  (Found : Dev nD → OutV F → Prop)

/-- The rows' block as a point's fetch leaves it in a buffer that held `d`: the array's rows, and `d` where the last
    block overhangs the array. -/
def rowsBlock (c : Dev nD) (t : Fin cfg0.N) (d : S2176x128.Idx → Elt F .f32) : S2176x128.Idx → Elt F .f32 :=
  (cfg0.win 1).fill (cfg0.grid.coords t) d (iblk m c 1 t)

/-- The proof data on core `c`: the arrays as the region finds them, the blocks left in place by the body, the ring's
    invariant (the array's contents on entry being some that `Found` allows) beside whatever else is carried along. -/
def dats (X : Dev nD → sProp 𝕄) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => rowsBlock m c t (constant S2176x128 .f32 0x00000000#32)
  Φ t := iprop((∃ V, ⌜Found c V⌝ ∗ Inv (Good c) (TGood c) V c t.val) ∗ X c)
  q _ := fullShare
  owed _ := 0

theorem dats_A (X : Dev nD → sProp 𝕄) (c : Dev nD) (w : Fin cfg0.W) : (dats m Good TGood Found X 0 c).A w = V m c (Pipeline.arrRef spec0 w) := by dsimp only [dats]
theorem dats_after0 (X : Dev nD → sProp 𝕄) (c : Dev nD) (t : Fin cfg0.N) : (dats m Good TGood Found X 0 c).after 0 t = iblk m c 0 t := by dsimp only [dats]
theorem dats_after1 (X : Dev nD → sProp 𝕄) (c : Dev nD) (t : Fin cfg0.N) :
    (dats m Good TGood Found X 0 c).after 1 t = rowsBlock m c t (constant S2176x128 .f32 0x00000000#32) := by dsimp only [dats]

/-- The first window's buffer holds its block at every point. -/
theorem dats_before0 (X : Dev nD → sProp 𝕄) (c : Dev nD) (t : Fin cfg0.N) (d) : (dats m Good TGood Found X 0 c).before 0 t d = iblk m c 0 t :=
  ((dats m Good TGood Found X 0 c).before_in_eq_fetched 0 rfl (fun _ => rfl) (fun _ _ _ => rfl)
    (fun t => by rw [dats_after0]; unfold Dat.blockOf iblk; rw [dats_A]; try rfl) t d).trans
    (by unfold Dat.fetched Dat.blockOf iblk; rw [dats_A]; try rfl)

/-- The second window's buffer is fetched at every point. -/
theorem dats_before1 (X : Dev nD → sProp 𝕄) (c : Dev nD) (t : Fin cfg0.N) (d) : (dats m Good TGood Found X 0 c).before 1 t d = rowsBlock m c t d := by
  unfold Dat.before
  rw [if_pos (fetch0_1 t)]
  unfold Dat.fetched Dat.blockOf rowsBlock iblk
  rw [dats_A]

theorem coord_val : ∀ t : Fin grid0.N, (grid0.coords t 0).val = t.val := by decide +kernel

/-- What the payloads are to be at every point, whatever the buffer of the rows held beyond the array. -/
def PayOk (c : Dev nD) : Prop := ∀ (t : Fin cfg0.N) (d : S2176x128.Idx → Elt F .f32),
  PayGood (Good c) t.val (k0_pay1 (View.ld (iblk m c 0 t) wholeX) (View.ld (rowsBlock m c t d) wholeM))
  ∧ (t.val = 45 → TailPayGood (TGood c) (k0_pay2 (View.ld (iblk m c 0 t) wholeX) (View.ld (rowsBlock m c t d) lastRows)))

/-- The body at a point, over the proof data's own fields. -/
theorem sound_body (X : Dev nD → sProp 𝕄) (c : Dev nD) (hok : PayOk m Good TGood c) (t : Fin cfg0.N) :
    iprop((dats m Good TGood Found X 0 c).Φ t.castSucc ∗ (dats m Good TGood Found X 0 c).owesAt () t.castSucc
        ∗ (∃ d, owns (c : Thread nD τ) (st0_0 t) fullShare ((dats m Good TGood Found X 0 c).before 0 t d))
        ∗ (∃ d, owns (c : Thread nD τ) (st0_1 t) fullShare ((dats m Good TGood Found X 0 c).before 1 t d)))
      ⊢ wp frame (wpE (defs₀ (F := F)) Variants.none (c : Thread nD τ) none) Set.univ (bodyAt0 t) (fun _ =>
        iprop((dats m Good TGood Found X 0 c).Φ t.succ ∗ (dats m Good TGood Found X 0 c).owesAt () t.succ
        ∗ owns (c : Thread nD τ) (st0_0 t) fullShare ((dats m Good TGood Found X 0 c).after 0 t)
        ∗ (∃ d, owns (c : Thread nD τ) (st0_1 t) fullShare
            ((cfg0.win 1).fill (cfg0.grid.coords t) d ((cfg0.win 1).cut (cfg0.grid.coords t) ((dats m Good TGood Found X 0 c).after 1 t)))))) := by
  unfold Dat.owesAt Pipeline.owesWithin
  rw [show (dats m Good TGood Found X 0 c).owed t.castSucc = 0 from rfl, show (dats m Good TGood Found X 0 c).owed t.succ = 0 from rfl,
    show (dats m Good TGood Found X 0 c).Φ t.castSucc = iprop((∃ V, ⌜Found c V⌝ ∗ Inv (Good c) (TGood c) V c t.val) ∗ X c) from rfl,
    show (dats m Good TGood Found X 0 c).Φ t.succ = iprop((∃ V, ⌜Found c V⌝ ∗ Inv (Good c) (TGood c) V c (t.val + 1)) ∗ X c) from rfl,
    dats_after0, dats_after1]
  simp only [dats_before0, dats_before1]
  unfold bodyAt0
  simp only [cc0__mm_kernel_eq_skeleton]
  iintro ⟨⟨⟨%Vi, %hV, HI⟩, HX⟩, ⟨%W, -, HW⟩, ⟨%d0, H0⟩, ⟨%d1, H1⟩⟩
  iapply (wp_wand_r frame (wpE (defs₀ (F := F)) Variants.none (c : Thread nD τ) none) Set.univ (Q := fun _ => iprop(Inv (Good c) (TGood c) Vi c (t.val + 1)
    ∗ Blocks c (st0_0 t) (st0_1 t) (iblk m c 0 t) (rowsBlock m c t d1) ∗ (∃ W, owes (c : Thread nD τ) 0 W))))
  isplitl [HI HW H0 H1]
  · iapply (point_run (Good := Good c) (TGood := TGood c) (V := Vi) (c := c) (grid0.coords t) t.val (coord_val t)
      (st0_0 t) (hstage0_0 ((cfg0.slots t 0).cast nbuf0_0)) (st0_1 t) (hstage0_1 ((cfg0.slots t 1).cast nbuf0_1))
      (iblk m c 0 t) (rowsBlock m c t d1) (hok t d1).1 (hok t d1).2)
    isplitl [HI]
    · iexact HI
    isplitl [H0 H1]
    · unfold Blocks
      isplitl [H0]
      · iexact H0
      iexact H1
    iexists W
    iexact HW
  iintro %u ⟨HI, HB, ⟨%W', HW⟩⟩
  unfold Blocks
  icases HB with ⟨H0, H1⟩
  isplitl [HI HX]
  · isplitl [HI]
    · iexists Vi
      isplitr
      · ipureintro
        exact hV
      iexact HI
    iexact HX
  isplitl [HW]
  · iexists W'
    isplitr
    · ipureintro
      exact fun _ _ => Or.inl trivial
    iexact HW
  isplitl [H0]
  · iexact H0
  iexists d1
  rw [show rowsBlock m c t (constant S2176x128 .f32 0x00000000#32)
    = (cfg0.win 1).fill (cfg0.grid.coords t) (constant S2176x128 .f32 0x00000000#32) (iblk m c 1 t) from rfl, Window.cut_fill]
  iexact H1

theorem defs₀_row (t : Fin cfg0.N) : defs₀ (F := F) .tc cfg0.body (cfg0.bodyArgs t (cfg0.slots t)) = bodyAt0 t := by
  unfold defs₀
  rw [Defs.onTc_tc]

/-- The body at every point. -/
theorem body_obligation (X : Dev nD → sProp 𝕄) (c : Dev nD) (hok : PayOk m Good TGood c) :
    BodyObligationLoose (dats m Good TGood Found X 0 c) (defs₀ (F := F)) Variants.none () Set.univ := fun t => by
  rw [bigSep_W0, bigSep_W0, defs₀_row]
  exact triple_restated (sound_body m Good TGood Found X c hok t) rfl .rfl fun _ => .rfl

/-! ## The operands the body addresses itself -/

/-- The body's two DMA cells. -/
abbrev osem0 : Fin 2 → SemLoc sig := fun j => (![SemLoc.dma 3, SemLoc.dma 4] : Fin 2 → SemLoc sig) j
theorem ownSemFacts0 : Pipeline.OwnSemFacts spec0 osem0 := by decide

theorem ownSems0_two (c : Dev nD) : Pipeline.ownSems0 osem0 c
    = (iprop(semVal ((c : Thread nD τ), cellS 0) 0 ∗ semVal ((c : Thread nD τ), cellS 1) 0) : sProp 𝕄) := by
  rw [Pipeline.ownSems0_eq_of_list c osem0 [0, 1] (by decide) (by decide)]
  rfl

/-- No operand is only read outside the windows; the two results are written. -/
abbrev H0 : Finset (Ref sig .tc) := ∅
abbrev R0 : Finset (Ref sig .tc) := {main_call0_v0_0, main_call0_v0_1}
theorem H0_sub : H0 ⊆ Pipeline.restRefs sig spec0 := Finset.empty_subset _
theorem R0_sub : R0 ⊆ Pipeline.restRefs sig spec0 \ H0 := by decide

theorem rest_two (Φ : Ref sig .tc → sProp 𝕄) : bigSep R0 Φ = iprop(Φ main_call0_v0_0 ∗ Φ main_call0_v0_1) := by
  rw [BI.bigSep_eq_bigSepL_of_eq [main_call0_v0_0, main_call0_v0_1] (by decide) (by decide)]
  rfl

end Cert.KernelIdeal.Hand

end
-- ==== Proof.Array.lean ====
/-
  The blocks the points read, at an index of the bank's array, and what the points' products then are: the logits.
-/
module

public import proofs.«01_k».proof.Proof.Product
public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe

/-- The rows' window at a point: block `t`, of which the rows inside the array are fetched. -/
theorem rows_index : ∀ t : Fin grid0.N, win0_1.index t = ![t.val, 0] := by decide +kernel
theorem rows_xsize : ∀ t : Fin grid0.N, win0_1.xsize (grid0.coords t) 0 = min 2176 (100000 - 2176 * t.val)
    ∧ win0_1.xsize (grid0.coords t) 1 = 128 := by decide +kernel
theorem inputs_index : ∀ t : Fin grid0.N, win0_0.index t = ![0, 0] := by decide +kernel

section Blocks

variable {F : FTy → Type} [FloatOps F] (m : (ℓ : Loc nD τ sig) → Buf (Elt F) ℓ) (c : Dev nD) (t : Fin cfg0.N)

/-- The first window's block is the whole array of inputs. -/
theorem inputs_at (j : S1024x128.Idx) : iblk m c 0 t j = m ((c : Thread nD τ).loc main_arg0) j := by
  unfold iblk
  blk_ext [V, inputs_index t]

/-- The rows' block at a row inside the array is the array's row. -/
theorem rows_at (d : S2176x128.Idx → Elt F .f32) (j : S2176x128.Idx) (n : Fin 100000) (hn : 2176 * t.val + (j 0).val = n.val) :
    rowsBlock m c t d j = m ((c : Thread nD τ).loc main_arg3) (ix2 n (j 1)) := by
  have hm : (cfg0.win 1).moved (cfg0.grid.coords t) j = true := by
    rw [Pipeline.Window.moved_iff]
    intro a
    have h := rows_xsize t
    have h0 : (j 0).val < 2176 := (j 0).isLt
    have h1 : (j 1).val < 128 := (j 1).isLt
    have hv : (j 0).val < min 2176 (100000 - 2176 * t.val) := by
      have := n.isLt
      omega
    fin_cases a
    · exact lt_of_lt_of_eq hv h.1.symm
    · exact lt_of_lt_of_eq h1 h.2.symm
  unfold rowsBlock Pipeline.Window.fill
  rw [dif_pos hm]
  unfold iblk
  blk_ext [V, rows_index t]

end Blocks

/-! ## The products are the logits -/

variable (m : (ℓ : Loc nD τ sig) → Buf (Elt Ideal) ℓ)

/-- The logits of the launch's inputs and bank. -/
abbrev logits (c : Dev nD) : Fin 1024 → Fin 100000 → Elt Ideal .f32 :=
  logit (m ((c : Thread nD τ).loc main_arg0)) (m ((c : Thread nD τ).loc main_arg3))

/-- The array's element is to be its logit. -/
def isLogit (c : Dev nD) (i : S1024x100000.Idx) (v : Elt Ideal .f32) : Prop := v = logits m c (i 0) (i 1)

/-- The second array's element is to be the logit of one of the last 128 bank rows. -/
def isTailLogit (c : Dev nD) (i : S1024x128.Idx) (v : Elt Ideal .f32) : Prop :=
  ∀ n : Fin 100000, n.val = 99872 + (i 1).val → v = logits m c (i 0) n

/-- A sum over the features of the inputs' block's row and one row of the rows' block is the logit of the row's number. -/
theorem sum_is_logit (c : Dev nD) (t : Fin cfg0.N) (x : S1024x128.Idx → Elt Ideal .f32) (hx : ∀ j, x j = m ((c : Thread nD τ).loc main_arg0) j)
    (d : S2176x128.Idx → Elt Ideal .f32) (r r' : Fin 1024) (hr : r.val = r'.val)
    (y : Fin 128 → Elt Ideal .f32) (a : Fin 128 → S2176x128.Idx) (n : Fin 100000) (hy : ∀ k, y k = rowsBlock m c t d (a k))
    (ha : ∀ k, 2176 * t.val + (a k 0).val = n.val ∧ (a k 1).val = k.val) :
    (∑ k : Fin 128, x (ix2 r k) * y k) = logits m c r' n := by
  obtain rfl : r = r' := Fin.ext hr
  unfold logits logit
  refine Finset.sum_congr rfl fun k _ => ?_
  rw [hx, hy, rows_at m c t d (a k) n (ha k).1, show a k 1 = k from Fin.ext (ha k).2]

/-- The inputs as a point loads them. -/
theorem load_inputs (c : Dev nD) (t : Fin cfg0.N) (j : S1024x128.Idx) :
    View.ld (Val := Elt Ideal) (S := S1024x128) (e' := .f32) (iblk m c 0 t) wholeX j = m ((c : Thread nD τ).loc main_arg0) j :=
  (congrFun (View.ld_unit_lit (S := S1024x128) (off := ![0, 0]) inb_S1024x128_S1024x128_0_0 _ (by decide)) j).trans (inputs_at m c t j)

/-- The products of every point are the logits, whatever a buffer held beyond the array. -/
theorem payOk_logits (c : Dev nD) : PayOk m (isLogit m) (isTailLogit m) c := by
  refine fun t d => ⟨fun i y hr hn hlt => ?_, fun ht i y hr hc n hn => ?_⟩
  · unfold isLogit
    rw [pay1_at]
    refine sum_is_logit m c t _ (load_inputs m c t) d _ _ hr _ (fun k => wholeM.idx (ix2 (y 2) k)) _ (fun k => rfl) fun k => ⟨?_, ?_⟩
    · rw [Rect.idx_unit_val]
      exact (by simpa using hn)
    · rw [Rect.idx_unit_val]
      simp
  · rw [pay2_at]
    refine sum_is_logit m c t _ (load_inputs m c t) d _ _ hr _ (fun k => lastRows.idx (ix2 (y 2) k)) _ (fun k => rfl) fun k => ⟨?_, ?_⟩
    · rw [Rect.idx_unit_val]
      show 2176 * t.val + (1952 + (y 2).val) = n.val
      omega
    · rw [Rect.idx_unit_val]
      simp

end Cert.KernelIdeal.Hand

end
-- ==== Proof.Frame.lean ====
/-
  The frame of the kernel's program at any float type: the arguments keep their contents and every counter returns to
  zero. The ring's invariant is run with nothing asked of what lands in the results.
-/
module

public import proofs.«01_k».proof.Proof.Launch
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Nothing asked of the array's elements, nor of the second array's. -/
abbrev anyGood : Dev nD → S1024x100000.Idx → Elt F .f32 → Prop := fun _ _ _ => True
abbrev anyTGood : Dev nD → S1024x128.Idx → Elt F .f32 → Prop := fun _ _ _ => True

/-- The array may be found at any contents. -/
abbrev anyFound : Dev nD → OutV F → Prop := fun _ _ => True

theorem payOk_any (c : Dev nD) : PayOk m (anyGood (F := F)) anyTGood c :=
  fun t d => ⟨fun _ _ _ _ _ => trivial, fun _ _ _ _ _ => trivial⟩

set_option maxHeartbeats 800000 in
/-- `@main`: the region, then the host's last update. -/
theorem hmain (𝒱₀ : Variants) : Pipeline.HMainK (Ix := Unit) (Name := ℕ) (U := Pipeline.UD sig nD τ) (Lvl := ℕ) cfgs 0 defs₀ 𝒱₀ m (main (F := F))
    (V m) (fun _ => Pipeline.chain ([hostOps1].map StableHlo.seq)) :=
  Pipeline.hmain_around cfgs 0 defs₀ 𝒱₀ m main [] [hostOps1] (by simp only [List.Forall]) (by simp only [List.Forall]) main_chain

/-- What is carried beside the ring's invariant: the pseudo-random register, untouched. -/
abbrev prngX (c : Dev nD) : sProp 𝕄 := iprop(∃ r, prngReg c r)

/-- The region's invariant as the launch gives it, written out. -/
theorem PhiDR_eq (c : Dev nD) : Pipeline.ΦDR osem0 spec0 H0 R0 (V m) c
    = (iprop((∃ f : AccV F, accPt c Finset.univ f) ∗ (∃ r, prngReg c r)
      ∗ (semVal ((c : Thread nD τ), cellS 0) 0 ∗ semVal ((c : Thread nD τ), cellS 1) 0) ∗ emp
      ∗ (∃ f, outPt c Finset.univ f) ∗ (∃ f, tailPt c f)) : sProp 𝕄) := by
  rw [Pipeline.ΦDR_eq, scopedRest0_eq, ownSems0_two, BI.bigSep_empty]
  unfold Pipeline.owned
  rw [rest_two]
  rfl

theorem enter_any (c : Dev nD) : Pipeline.ΦDR osem0 spec0 H0 R0 (V m) c ⊢ (dats m (anyGood (F := F)) anyTGood anyFound prngX 0 c).Φ 0 := by
  rw [PhiDR_eq, show (dats m (anyGood (F := F)) anyTGood anyFound prngX 0 c).Φ 0
    = iprop((∃ V, ⌜True⌝ ∗ Inv (anyGood c) (anyTGood c) V c 0) ∗ prngX c) from rfl]
  iintro ⟨HA, HX, HS, -, ⟨%f, HO⟩, HT⟩
  isplitr [HX]
  · iexists f
    isplitr
    · ipureintro
      trivial
    iapply (Inv_enter (anyGood c) (anyTGood c) f c)
    isplitl [HA]
    · iexact HA
    isplitl [HS]
    · iexact HS
    isplitl [HO]
    · iexact HO
    iexact HT
  iexact HX

theorem leave_any (c : Dev nD) : (dats m (anyGood (F := F)) anyTGood anyFound prngX 0 c).Φ (Fin.last cfg0.N) ⊢ Pipeline.ΦDR osem0 spec0 H0 R0 (V m) c := by
  rw [PhiDR_eq, show (dats m (anyGood (F := F)) anyTGood anyFound prngX 0 c).Φ (Fin.last cfg0.N)
    = iprop((∃ V, ⌜True⌝ ∗ Inv (anyGood c) (anyTGood c) V c 46) ∗ prngX c) from rfl]
  iintro ⟨⟨%Vi, -, HI⟩, HX⟩
  ihave HI := (Inv_leave (anyGood c) (anyTGood c) Vi c) $$ HI
  icases HI with ⟨HA, HS, ⟨%f, -, HO⟩, ⟨%g, -, HT⟩⟩
  isplitl [HA]
  · iexact HA
  isplitl [HX]
  · iexact HX
  isplitl [HS]
  · iexact HS
  isplitr
  · iempintro
  isplitl [HO]
  · iexists f
    iexact HO
  iexists g
  iexact HT

/-- The buffers the host's last lines write. -/
abbrev T0 : Finset (Ref sig .tc) := {main_call0_c, main_call0_c_0, main_v0}

theorem sfx_T0 : ∀ ops ∈ ([hostOps1] : List (List (HloOp τ sig (Elt F)))), ∀ op ∈ ops,
    ∀ b : Ref sig .tc, Proc.devRef .tc b ∈ op.writes → b ∈ T0 := by
  intro ops hops op hop b hb
  rw [List.mem_singleton] at hops
  subst hops
  simp only [hostOps1, List.mem_cons, List.mem_nil_iff, or_false] at hop
  rcases hop with rfl | rfl | rfl <;>
    (simp only [StableHlo.nullary_writes, StableHlo.binaryIndexed_writes, Finset.mem_singleton] at hb
     rw [Proc.devRef_injective _ hb]
     decide)

set_option backward.isDefEq.respectTransparency.types false in
theorem run_any : θ_run defs (onTc (τ := τ) (main (F := F))) ⟨m, fun _ => 0, ρ⟩
    (fun r => Pipeline.FramePostR cfgs (dats m (anyGood (F := F)) anyTGood anyFound prngX) 0 (R0 ∪ T0) (V m) r ∧ r.2.sem = fun _ => 0) :=
  Pipeline.θ_run_frame_dmaR_around (Q' := _) cfgs (dats m (anyGood (F := F)) anyTGood anyFound prngX) (0 : Fin 1) launch0 osem0 defs₀ Variants.none ownSemFacts0 H0 R0 T0
    H0_sub R0_sub m ρ main
    (hbody := fun c => body_obligation m _ _ _ _ c (payOk_any m c)) (hshare := fun c => (dats m _ _ _ _ 0 c).share_full fun _ => rfl)
    (howed := fun _ _ => rfl) (V₀ := V0 m) (opss := [hostOps1]) (hsub := sfx_sub) (hfresh := sfx_fresh) (hkeep := sfx_keeps) (hT := sfx_T0)
    (hmain := hmain m Variants.none) (hA := dats_A m _ _ _ _)
    (hin := enter_any m) (hout := leave_any m) (hQ' := fun _ h => h)

/-- The kernel's program leaves its four arguments as it found them, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (((h.1 c).1 0).trans ((dats m _ _ _ _ 0 c).arrAt_in 0 rfl _)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (((h.1 c).1 1).trans ((dats m _ _ _ _ 0 c).arrAt_in 1 rfl _)).trans (V_main_arg3 m c)⟩, h.2⟩) (run_any m ρ)

end Cert.KernelIdeal.Hand

end
-- ==== Proof.Value.lean ====
/-
  The value of the kernel's result under exact arithmetic: the array and the second array are determined when the
  region is left, and the host's update of the one by the other holds the logit at every index.
-/
module

public import proofs.«01_k».proof.Proof.Array
public import proofs.«01_k».proof.Proof.Frame
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (Pipeline.UD sig nD τ) ℕ

variable (m : (ℓ : Loc nD τ sig) → Buf (Elt Ideal) ℓ) (ρ : Dev nD → PrngReg)

/-- The array is found as the region finds it. -/
abbrev asFound (c : Dev nD) (f : OutV Ideal) : Prop := f = V m c main_call0_v0_0

/-- Nothing is carried beside the ring's invariant. -/
abbrev noX (_ : Dev nD) : sProp 𝕄 := iprop(emp)

/-- The array at the end: the logits, and the columns no copy reaches as found. -/
def outEnd (c : Dev nD) : OutV Ideal := fun i => if (i 1).val < 99968 then logits m c (i 0) (i 1) else V m c main_call0_v0_0 i

/-- The second array at the end: the logits of the last 128 bank rows. -/
def tailEnd (c : Dev nD) : TailV Ideal := fun i =>
  logits m c (i 0) ⟨99872 + (i 1).val, by have : (i 1).val < 128 := (i 1).isLt; omega⟩

/-- The buffers' contents when the region is left. -/
def ends (c : Dev nD) : (b : Ref sig .tc) → Buf (Elt Ideal) ((c : Thread nD τ).loc b) :=
  Function.update (Function.update (V m c) main_call0_v0_0 (outEnd m c)) main_call0_v0_1 (tailEnd m c)

theorem ends_out (c : Dev nD) : ends m c main_call0_v0_0 = outEnd m c := by
  unfold ends
  rw [Function.update_of_ne (by decide), Function.update_self]

theorem ends_tail (c : Dev nD) : ends m c main_call0_v0_1 = tailEnd m c := by
  unfold ends
  rw [Function.update_self]

/-- The region's invariant with the written results at named contents, written out. -/
theorem PhiDRV_eq (G : (c : Dev nD) → (b : Ref sig .tc) → Buf (Elt Ideal) ((c : Thread nD τ).loc b)) (c : Dev nD) :
    Pipeline.ΦDRV osem0 spec0 H0 R0 (V m) G c
    = (iprop((∃ f : AccV Ideal, accPt c Finset.univ f)
      ∗ (semVal ((c : Thread nD τ), cellS 0) 0 ∗ semVal ((c : Thread nD τ), cellS 1) 0) ∗ emp
      ∗ outPt c Finset.univ (G c main_call0_v0_0) ∗ tailPt c (G c main_call0_v0_1)) : sProp 𝕄) := by
  unfold Pipeline.ΦDRV
  rw [scopedRest0_eq, ownSems0_two, BI.bigSep_empty, rest_two]
  rfl

/-- The region run on the logits. -/
abbrev valDats := dats m (isLogit m) (isTailLogit m) (asFound m) noX

theorem enter_val (c : Dev nD) : Pipeline.ΦDRV osem0 spec0 H0 R0 (V m) (V m) c ⊢ (valDats m 0 c).Φ 0 := by
  rw [PhiDRV_eq, show (valDats m 0 c).Φ 0
    = iprop((∃ V, ⌜asFound m c V⌝ ∗ Inv (isLogit m c) (isTailLogit m c) V c 0) ∗ noX c) from rfl]
  iintro ⟨HA, HS, -, HO, HT⟩
  isplitl
  · iexists V m c main_call0_v0_0
    isplitr
    · ipureintro
      rfl
    iapply (Inv_enter (isLogit m c) (isTailLogit m c) (V m c main_call0_v0_0) c)
    isplitl [HA]
    · iexact HA
    isplitl [HS]
    · iexact HS
    isplitl [HO]
    · iexact HO
    iexists V m c main_call0_v0_1
    iexact HT
  iempintro

/-- Contents good below column 99968 and as found beyond are the end's. -/
theorem eq_outEnd (c : Dev nD) (f : OutV Ideal) (h : OutEnd (isLogit m c) (V m c main_call0_v0_0) f) : f = outEnd m c := by
  funext i
  unfold outEnd
  split
  · exact (h i).1 ‹_›
  · exact (h i).2 (by omega)

theorem eq_tailEnd (c : Dev nD) (f : TailV Ideal) (h : ∀ i, isTailLogit m c i (f i)) : f = tailEnd m c :=
  funext fun i => h i _ rfl

theorem leave_val (c : Dev nD) : (valDats m 0 c).Φ (Fin.last cfg0.N) ⊢ Pipeline.ΦDRV osem0 spec0 H0 R0 (V m) (ends m) c := by
  rw [PhiDRV_eq, ends_out, ends_tail, show (valDats m 0 c).Φ (Fin.last cfg0.N)
    = iprop((∃ V, ⌜asFound m c V⌝ ∗ Inv (isLogit m c) (isTailLogit m c) V c 46) ∗ noX c) from rfl]
  iintro ⟨⟨%Vi, %hV, HI⟩, -⟩
  ihave HI := (Inv_leave (isLogit m c) (isTailLogit m c) Vi c) $$ HI
  icases HI with ⟨HA, HS, ⟨%f, %hf, HO⟩, ⟨%g, %hg, HT⟩⟩
  obtain rfl := hV
  obtain rfl := eq_outEnd m c f hf
  obtain rfl := eq_tailEnd m c g hg
  isplitl [HA]
  · iexact HA
  isplitl [HS]
  · iexact HS
  isplitr
  · iempintro
  isplitl [HO]
  · iexact HO
  iexact HT

/-- The buffers after the host's last lines, from the region's exit. -/
abbrev atEnd (c : Dev nD) : Valuation τ sig (Elt Ideal) :=
  StableHlo.after ([hostOps1] : List (List (HloOp τ sig (Elt Ideal)))).flatten
    (Pipeline.withArrays spec0 c (Pipeline.withR (V0 m c) R0 c (ends m c)) fun w => (valDats m 0 c).arrAt w cfg0.N)

set_option backward.isDefEq.respectTransparency.types false in
/-- The run, with every buffer's contents at the end. -/
theorem run_val : θ_run defs (onTc (τ := τ) (main (F := Ideal))) ⟨m, fun _ => 0, ρ⟩
    (fun r => ∀ c : Dev nD, (∀ w, r.2.mem ((spec0 w).arr.view.loc (c : Thread nD τ)) = (valDats m 0 c).arrAt w cfg0.N)
      ∧ ∀ b ∈ Pipeline.restRefs sig spec0, r.2.mem ((c : Thread nD τ).loc b) = atEnd m c (Proc.devRef .tc b)) :=
  Pipeline.θ_run_frame_dmaR_aroundV (Q' := _) cfgs (valDats m) (0 : Fin 1) launch0 osem0 defs₀ Variants.none ownSemFacts0 H0 R0
    H0_sub R0_sub m ρ main
    (hbody := fun c => body_obligation m _ _ _ _ c (payOk_logits m c)) (hshare := fun c => (dats m _ _ _ _ 0 c).share_full fun _ => rfl)
    (howed := fun _ _ => rfl) (V₀ := V0 m) (opss := [hostOps1]) (hsub := sfx_sub) (hfresh := sfx_fresh) (hkeep := sfx_keeps) (G := ends m)
    (hmain := hmain m Variants.none) (hA := dats_A m _ _ _ _)
    (hin := enter_val m) (hout := leave_val m) (hQ' := fun _ h => h.1)

theorem tail_fits : S1024x100000.Slices ![0, 99872] S1024x128 := by decide

/-- The buffers after the two lines that set the update's place. -/
abbrev placed (W : Valuation τ sig (Elt Ideal)) : Valuation τ sig (Elt Ideal) :=
  StableHlo.after ((hostOps1 : List (HloOp τ sig (Elt Ideal))).take 2) W

theorem placed_row (W : Valuation τ sig (Elt Ideal)) (j : S_.Idx) :
    BitVec.toInt ((placed W (Proc.devRef .tc main_call0_c) : S_.Idx → BitVec 32) j) = 0 := by
  unfold placed
  simp only [hostOps1, List.take]
  after_results_simp
  rfl

theorem placed_col (W : Valuation τ sig (Elt Ideal)) (j : S_.Idx) :
    BitVec.toInt ((placed W (Proc.devRef .tc main_call0_c_0) : S_.Idx → BitVec 32) j) = 99872 := by
  unfold placed
  simp only [hostOps1, List.take]
  after_results_simp
  rfl

/-- The host's update: the array with the second array put in at column 99872. -/
theorem host_update (W : Valuation τ sig (Elt Ideal)) :
    StableHlo.after ([hostOps1] : List (List (HloOp τ sig (Elt Ideal)))).flatten W (Proc.devRef .tc main_v0)
      = updateSlice (s := S1024x100000) (u := S1024x128) (W (Proc.devRef .tc main_call0_v0_0)) (W (Proc.devRef .tc main_call0_v0_1)) ![0, 99872] tail_fits := by
  simp only [hostOps1, List.flatten_cons, List.flatten_nil, List.append_nil]
  after_results_simp
  refine WordCmp.dynamicUpdateSlice_eq_update (s := S1024x100000) (u := S1024x128) (W (Proc.devRef .tc main_call0_v0_0)) (W (Proc.devRef .tc main_call0_v0_1))
    _ updateFits_S1024x100000_S1024x128 _ tail_fits fun a => ?_
  fin_cases a
  · exact placed_row W _
  · exact placed_col W _

/-- The array and the second array as the host's lines find them. -/
theorem exit_out (c : Dev nD) (A) : Pipeline.withArrays spec0 c (Pipeline.withR (V0 m c) R0 c (ends m c)) A (Proc.devRef .tc main_call0_v0_0)
    = outEnd m c := by
  rw [Pipeline.withArrays_of_ne _ c _ _ main_call0_v0_0 (by exact (by decide : ∀ w, Pipeline.arrRef spec0 w ≠ main_call0_v0_0)),
    Pipeline.withR_of_mem _ _ _ _ _ (by decide), ends_out]

theorem exit_tail (c : Dev nD) (A) : Pipeline.withArrays spec0 c (Pipeline.withR (V0 m c) R0 c (ends m c)) A (Proc.devRef .tc main_call0_v0_1)
    = tailEnd m c := by
  rw [Pipeline.withArrays_of_ne _ c _ _ main_call0_v0_1 (by exact (by decide : ∀ w, Pipeline.arrRef spec0 w ≠ main_call0_v0_1)),
    Pipeline.withR_of_mem _ _ _ _ _ (by decide), ends_tail]

/-- The array updated by the second array is the logits, at every index. -/
theorem update_at (c : Dev nD) (i : S1024x100000.Idx) :
    updateSlice (s := S1024x100000) (u := S1024x128) (outEnd m c) (tailEnd m c) ![0, 99872] tail_fits i = logits m c (i 0) (i 1) := by
  have h0 : (i 0).val < 1024 := (i 0).isLt
  have h1 : (i 1).val < 100000 := (i 1).isLt
  unfold updateSlice
  split
  · rename_i h
    have hc : 99872 ≤ (i 1).val := (h 1).1
    unfold tailEnd
    exact congrArg (logits m c (i 0)) (Fin.ext (show 99872 + ((i 1).val - 99872) = (i 1).val by omega))
  · rename_i h
    have hc : (i 1).val < 99872 := by
      by_contra hc
      exact h fun a => by
        fin_cases a
        · exact ⟨Nat.zero_le _, by show (i 0).val < 0 + 1024; omega⟩
        · exact ⟨by show 99872 ≤ (i 1).val; omega, by show (i 1).val < 99872 + 128; omega⟩
    unfold outEnd
    rw [if_pos (by omega)]

/-- The kernel's result is the logits. -/
theorem result_at (c : Dev nD) (i : S1024x100000.Idx) : atEnd m c (Proc.devRef .tc main_v0) i = logits m c (i 0) (i 1) := by
  unfold atEnd
  rw [host_update, exit_out, exit_tail]
  exact update_at m c i

end Cert.KernelIdeal.Hand

end
-- ==== Proof.lean ====
module

public import proofs.«01_k».proof.Defs
public import proofs.«01_k».proof.Proof.Value
public import proofs.«01_k».proof.Proof.Gen.Kernel
public import proofs.«01_k».proof.Proof.Gen.ReferenceIdeal
public import proofs.«01_k».proof.Proof.Gen.ReferenceIdeal.Run
public import Idealize.ShloMosaic.Lib.Tactic

@[expose] public section

set_option maxRecDepth 100000

noncomputable section

namespace Cert.Proof

open Idealize.ShloMosaic Idealize.SL.Sem

/-- The kernel's frame claim is a statement about the idealization's program read at bit patterns: the two programs are
    the same text. -/
theorem quiescent_Kernel_eq : @Cert.quiescent_Kernel Cert.Kernel.Gen.facts
    = ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) := by
  sl_kernel_rfl

/-- The kernel ends with its arguments unchanged and every counter at zero. -/
theorem frame_p : @Cert.quiescent_Kernel Cert.Kernel.Gen.facts := by
  rw [quiescent_Kernel_eq]
  exact fun m g _ => Cert.KernelIdeal.Hand.frame m g

/-- So does its idealization. -/
theorem frame_pi : Cert.quiescent_KernelIdeal := fun m g _ => Cert.KernelIdeal.Hand.frame m g

/-- And the reference, which declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

open Cert.KernelIdeal.Hand in
/-- From memories that agree on the arguments, the kernel's result and the reference's are equal at every index: both
    are the logits, the inner product over the 128 features of the input row and the bank row. -/
theorem algebraic : Cert.algebraic_KernelIdeal_ReferenceIdeal := fun m g m' g' _ hagree =>
  ⟨fun c i => logits m c (i 0) (i 1),
    (θ_run Cert.KernelIdeal.defs _ _).mono (fun r h c => ⟨
        (((h.1 c).2 Cert.KernelIdeal.main_v0 (Pipeline.mem_restRefs_of Cert.KernelIdeal.main_v0 (by decide) (by decide))).trans
          (funext fun i => result_at m c i)),
        h.2.1 c⟩)
      (θ_run_and (run_val m g) (frame m g)),
    (θ_run Cert.ReferenceIdeal.defs _ _).mono (fun r h c => ⟨
        (h c).1.trans (funext fun i => by
          rw [reference_at, (hagree c).1, (hagree c).2.2.2]),
        (h c).2⟩)
      (Cert.ReferenceIdeal.Value.run (F := Ideal) m' g')⟩

/-- All the claims, with the facts that the programs' shapes need. -/
theorem claim : Cert.Claim := ⟨Cert.Kernel.Gen.facts, Cert.KernelIdeal.Gen.facts, Cert.ReferenceIdeal.Gen.facts,
  frame_p, frame_pi, frame_ri, trivial, algebraic⟩

end Cert.Proof

end
